-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_self_first [hPre_self_first : Cert.Pre_self_first.Facts] (m : (ℓ : Loc Cert.KernelIdeal.nD Cert.KernelIdeal.τ Cert.KernelIdeal.sig) → Buf (Elt Ideal) ℓ) : Prop :=
  ∀ c : Dev Cert.KernelIdeal.nD,
    (Cert.Pre_self_first.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_self_first [hPre_self_first : Cert.Pre_self_first.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_self_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_self_first [hKernelIdeal : Cert.KernelIdeal.Facts] [hPre_self_first : Cert.Pre_self_first.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_self_first m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_self_first [hReferenceIdeal : Cert.ReferenceIdeal.Facts] [hPre_self_first : Cert.Pre_self_first.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_self_first m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_self_first [hKernelIdeal : Cert.KernelIdeal.Facts] [hReferenceIdeal : Cert.ReferenceIdeal.Facts] [hPre_self_first : Cert.Pre_self_first.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_self_first m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_self_first : Cert.Pre_self_first.Facts),
    quiescent_Kernel (hKernel := hKernel)
    ∧ quiescent_KernelIdeal (hKernelIdeal := hKernelIdeal)
    ∧ quiescent_KernelIdeal_pre_self_first (hKernelIdeal := hKernelIdeal) (hPre_self_first := hPre_self_first)
    ∧ quiescent_ReferenceIdeal (hReferenceIdeal := hReferenceIdeal)
    ∧ quiescent_ReferenceIdeal_pre_self_first (hReferenceIdeal := hReferenceIdeal) (hPre_self_first := hPre_self_first)
    ∧ preserves_Kernel_KernelIdeal
    ∧ algebraic_KernelIdeal_ReferenceIdeal_pre_self_first (hKernelIdeal := hKernelIdeal) (hReferenceIdeal := hReferenceIdeal) (hPre_self_first := hPre_self_first)
-- ==== Pre_self_first.lean ====
abbrev S8x256x32x32 : Shape := ⟨4, ![8, 256, 32, 32]⟩
abbrev S256x512 : Shape := ⟨2, ![256, 512]⟩
abbrev S512 : Shape := ⟨1, ![512]⟩
abbrev S512x256 : Shape := ⟨2, ![512, 256]⟩
abbrev S256 : Shape := ⟨1, ![256]⟩
abbrev S8x32x32x256 : Shape := ⟨4, ![8, 32, 32, 256]⟩
abbrev S8x1024x256 : Shape := ⟨3, ![8, 1024, 256]⟩
abbrev S_ : Shape := ⟨0, ![]⟩
abbrev S8x1024 : Shape := ⟨2, ![8, 1024]⟩
abbrev S8x1024x1 : Shape := ⟨3, ![8, 1024, 1]⟩
abbrev S8x1024x1024 : Shape := ⟨3, ![8, 1024, 1024]⟩
abbrev S8x1024x5 : Shape := ⟨3, ![8, 1024, 5]⟩
abbrev S1024 : Shape := ⟨1, ![1024]⟩
abbrev S1x1024 : Shape := ⟨2, ![1, 1024]⟩

class Facts : Prop where
  transposes_S8x256x32x32_S8x32x32x256_0_2_3_1 : S8x256x32x32.Transposes [0, 2, 3, 1] S8x32x32x256
  shapeCasts_S8x32x32x256_S8x1024x256 : S8x32x32x256.ShapeCasts S8x1024x256
  reducesTo_S8x1024x256_S8x1024_d2 : S8x1024x256.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x256_0_1_2 : S8x1024x1.BroadcastsInDim S8x1024x256 (![0, 1, 2] : Fin 3 → Fin S8x1024x256.rank)
  sliceFits_S8x1024x1024_S8x1024x5 : S8x1024x1024.Slices (fun _ => 0) S8x1024x5
  slices_S8x1024x5_S8x1024x1_0_0_0 : S8x1024x5.Slices ![0, 0, 0] S8x1024x1
  shapeCasts_S8x1024x1_S8x1024 : S8x1024x1.ShapeCasts S8x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  dot_S8x1024x256_S8x1024x256_S8x1024x1024_2_2_1_1_0_0_wf : DotDims.WF S8x1024x256 S8x1024x256 S8x1024x1024 [2] [2] [1] [1] [0] [0]

variable [Facts]

def dot_S8x1024x256_S8x1024x256_S8x1024x1024_2_2_1_1_0_0 : DotDims S8x1024x256 S8x1024x256 S8x1024x1024 where
  lhsContracting := [2]
  rhsContracting := [2]
  lhsNonContracting := [1]
  rhsNonContracting := [1]
  lhsBatch := [0]
  rhsBatch := [0]
  wf := dot_S8x1024x256_S8x1024x256_S8x1024x1024_2_2_1_1_0_0_wf
def fn_norm {F : FTy → Type} [FloatOps F] (arg0 : FVec F S8x1024x256 .f32) : FVec F S8x1024x1 .f32 :=
  let v0 : FVec F S8x1024x256 .f32 := mulf arg0 arg0
  let cst : FVec F S_ .f32 := constant S_ .f32 0x00000000#32
  let v1 : FVec F S8x1024 .f32 := (fun x v => Host.reduceAdd x v reducesTo_S8x1024x256_S8x1024_d2 h_S_) v0 cst
  let v2 : FVec F S8x1024x1 .f32 := broadcastInDim S8x1024x1 ![0, 1] bcast_S8x1024_S8x1024x1_0_1 v1
  let v3 : FVec F S8x1024x1 .f32 := Host.sqrt v2
  v3

def fn {F : FTy → Type} [FloatOps F] (main_arg0 : FVec F S8x256x32x32 .f32) (main_arg1 : FVec F S256x512 .f32) (main_arg2 : FVec F S512 .f32) (main_arg3 : FVec F S512x256 .f32) (main_arg4 : FVec F S256 .f32) : IVec S8x1024 1 :=
  let main_v0 : FVec F S8x32x32x256 .f32 := (transpose S8x32x32x256 [0, 2, 3, 1] · transposes_S8x256x32x32_S8x32x32x256_0_2_3_1) main_arg0
  let main_v1 : FVec F S8x1024x256 .f32 := shapeCast S8x1024x256 main_v0 shapeCasts_S8x32x32x256_S8x1024x256
  let main_v2 : FVec F S8x1024x1 .f32 := fn_norm (F := F) main_v1
  let main_cst : FVec F S_ .f32 := constant S_ .f32 0x2B8CBCCC#32
  let main_v3 : FVec F S8x1024x1 .f32 := broadcastInDim S8x1024x1 ![] bcast_S_S8x1024x1 main_cst
  let main_v4 : FVec F S8x1024x1 .f32 := maximumf main_v2 main_v3
  let main_v5 : FVec F S8x1024x256 .f32 := broadcastInDim S8x1024x256 ![0, 1, 2] bcast_S8x1024x1_S8x1024x256_0_1_2 main_v4
  let main_v6 : FVec F S8x1024x256 .f32 := Host.divf main_v1 main_v5
  let main_v7 : FVec F S8x1024x1024 .f32 := (fun l r => Host.dotGeneral dot_S8x1024x256_S8x1024x256_S8x1024x1024_2_2_1_1_0_0 none l r) main_v6 main_v6
  let main_values : FVec F S8x1024x5 .f32 := (fun x => (Host.topK S8x1024x5 2 (FloatOps.cmpfTotal .gt) x sliceFits_S8x1024x1024_S8x1024x5).1) main_v7
  let main_indices : IVec S8x1024x5 32 := (fun x => (Host.topK S8x1024x5 2 (FloatOps.cmpfTotal .gt) x sliceFits_S8x1024x1024_S8x1024x5).2) main_v7
  let main_v8 : IVec S8x1024x1 32 := (extractStridedSlice S8x1024x1 ![0, 0, 0] · slices_S8x1024x5_S8x1024x1_0_0_0) main_indices
  let main_v9 : IVec S8x1024 32 := shapeCast S8x1024 main_v8 shapeCasts_S8x1024x1_S8x1024
  let main_v10 : IVec S1024 32 := iotaInDim S1024 32 0
  let main_v11 : IVec S1x1024 32 := broadcastInDim S1x1024 ![1] bcast_S1024_S1x1024_1 main_v10
  let main_v12 : IVec S8x1024 32 := broadcastInDim S8x1024 ![0, 1] bcast_S1x1024_S8x1024_0_1 main_v11
  let main_v13 : IVec S8x1024 1 := cmpi .eq main_v9 main_v12
  main_v13
-- ==== Kernel.lean ====
abbrev S8x256x32x32 : Shape := ⟨4, ![8, 256, 32, 32]⟩
abbrev S256x512 : Shape := ⟨2, ![256, 512]⟩
abbrev S512 : Shape := ⟨1, ![512]⟩
abbrev S512x256 : Shape := ⟨2, ![512, 256]⟩
abbrev S256 : Shape := ⟨1, ![256]⟩
abbrev S8x32x32x256 : Shape := ⟨4, ![8, 32, 32, 256]⟩
abbrev S8x1024x256 : Shape := ⟨3, ![8, 1024, 256]⟩
abbrev S1x512 : Shape := ⟨2, ![1, 512]⟩
abbrev S1x256 : Shape := ⟨2, ![1, 256]⟩
abbrev S4x1024x256 : Shape := ⟨3, ![4, 1024, 256]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩
abbrev S1024x512 : Shape := ⟨2, ![1024, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x256x32x32, .f32⟩
  | .hbm, ⟨1, _⟩ => ⟨S256x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S8x32x32x256, .f32⟩
  | .hbm, ⟨6, _⟩ => ⟨S8x1024x256, .f32⟩
  | .hbm, ⟨7, _⟩ => ⟨S1x512, .f32⟩
  | .hbm, ⟨8, _⟩ => ⟨S1x256, .f32⟩
  | .hbm, ⟨9, _⟩ => ⟨S8x1024x256, .f32⟩
  | .hbm, ⟨10, _⟩ => ⟨S8x32x32x256, .f32⟩
  | .hbm, ⟨11, _⟩ => ⟨S8x256x32x32, .f32⟩
  | .local _ .vmem, ⟨0, _⟩ => ⟨S4x1024x256, .f32⟩
  | .local _ .vmem, ⟨1, _⟩ => ⟨S4x1024x256, .f32⟩
  | .local _ .vmem, ⟨2, _⟩ => ⟨S256x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S4x1024x256, .f32⟩
  | .local _ .vmem, ⟨7, _⟩ => ⟨S4x1024x256, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x256x32x32 : Shape := ⟨4, ![8, 256, 32, 32]⟩
abbrev S256x512 : Shape := ⟨2, ![256, 512]⟩
abbrev S512 : Shape := ⟨1, ![512]⟩
abbrev S512x256 : Shape := ⟨2, ![512, 256]⟩
abbrev S256 : Shape := ⟨1, ![256]⟩
abbrev S8x32x32x256 : Shape := ⟨4, ![8, 32, 32, 256]⟩
abbrev S8x1024x256 : Shape := ⟨3, ![8, 1024, 256]⟩
abbrev S_ : Shape := ⟨0, ![]⟩
abbrev S8x1024 : Shape := ⟨2, ![8, 1024]⟩
abbrev S8x1024x1 : Shape := ⟨3, ![8, 1024, 1]⟩
abbrev S8x1024x1024 : Shape := ⟨3, ![8, 1024, 1024]⟩
abbrev S8x1024x5 : Shape := ⟨3, ![8, 1024, 5]⟩
abbrev S8x1024x4 : Shape := ⟨3, ![8, 1024, 4]⟩
abbrev S1024 : Shape := ⟨1, ![1024]⟩
abbrev S1x1024x1 : Shape := ⟨3, ![1, 1024, 1]⟩
abbrev S8 : Shape := ⟨1, ![8]⟩
abbrev S8x1x1 : Shape := ⟨3, ![8, 1, 1]⟩
abbrev S32768 : Shape := ⟨1, ![32768]⟩
abbrev S8192 : Shape := ⟨1, ![8192]⟩
abbrev S40960 : Shape := ⟨1, ![40960]⟩
abbrev S8192x256 : Shape := ⟨2, ![8192, 256]⟩
abbrev S49152 : Shape := ⟨1, ![49152]⟩
abbrev S49152x1 : Shape := ⟨2, ![49152, 1]⟩
abbrev S8192x512 : Shape := ⟨2, ![8192, 512]⟩
abbrev S49152x512 : Shape := ⟨2, ![49152, 512]⟩
abbrev S1x512 : Shape := ⟨2, ![1, 512]⟩
abbrev S49152x256 : Shape := ⟨2, ![49152, 256]⟩
abbrev S1x256 : Shape := ⟨2, ![1, 256]⟩

abbrev nBuf : Space → Nat
  | .hbm => 188
  | .vmem => 0
  | .smem => 0
  | _ => 0

abbrev hbmTy0_0 (i : Nat) : BufTy := match i % 128 with
  | 0 => ⟨S8x256x32x32, .f32⟩
  | 1 => ⟨S256x512, .f32⟩
  | 2 => ⟨S512, .f32⟩
  | 3 => ⟨S512x256, .f32⟩
  | 4 => ⟨S256, .f32⟩
  | 5 => ⟨S8x32x32x256, .f32⟩
  | 6 => ⟨S8x1024x256, .f32⟩
  | 7 => ⟨S8x1024x256, .f32⟩
  | 8 => ⟨S_, .f32⟩
  | 9 => ⟨S8x1024, .f32⟩
  | 10 => ⟨S8x1024x1, .f32⟩
  | 11 => ⟨S8x1024x1, .f32⟩
  | 12 => ⟨S_, .f32⟩
  | 13 => ⟨S8x1024x1, .f32⟩
  | 14 => ⟨S8x1024x1, .f32⟩
  | 15 => ⟨S8x1024x256, .f32⟩
  | 16 => ⟨S8x1024x256, .f32⟩
  | 17 => ⟨S8x1024x1024, .f32⟩
  | 18 => ⟨S8x1024x5, .f32⟩
  | 19 => ⟨S8x1024x5, .i32⟩
  | 20 => ⟨S8x1024x4, .i32⟩
  | 21 => ⟨S1024, .i32⟩
  | 22 => ⟨S1x1024x1, .i32⟩
  | 23 => ⟨S8x1024x4, .i32⟩
  | 24 => ⟨S8, .i32⟩
  | 25 => ⟨S_, .i32⟩
  | 26 => ⟨S8, .i32⟩
  | 27 => ⟨S8, .i32⟩
  | 28 => ⟨S8x1x1, .i32⟩
  | 29 => ⟨S8x1024x4, .i32⟩
  | 30 => ⟨S8x1024x4, .i32⟩
  | 31 => ⟨S32768, .i32⟩
  | 32 => ⟨S8x1024x4, .i32⟩
  | 33 => ⟨S8x1024x4, .i32⟩
  | 34 => ⟨S32768, .i32⟩
  | 35 => ⟨S8192, .i32⟩
  | 36 => ⟨S40960, .i32⟩
  | 37 => ⟨S40960, .i32⟩
  | 38 => ⟨S8x32x32x256, .f32⟩
  | 39 => ⟨S8192x256, .f32⟩
  | 40 => ⟨S8192, .i32⟩
  | 41 => ⟨S49152, .i32⟩
  | 42 => ⟨S49152, .i32⟩
  | 43 => ⟨S_, .f32⟩
  | 44 => ⟨S49152, .f32⟩
  | 45 => ⟨S_, .f32⟩
  | 46 => ⟨S8192, .f32⟩
  | 47 => ⟨S_, .i32⟩
  | 48 => ⟨S49152, .i32⟩
  | 49 => ⟨S49152, .i1⟩
  | 50 => ⟨S_, .i32⟩
  | 51 => ⟨S49152, .i32⟩
  | 52 => ⟨S49152, .i32⟩
  | 53 => ⟨S49152, .i32⟩
  | 54 => ⟨S49152x1, .i32⟩
  | 55 => ⟨S8192, .f32⟩
  | 56 => ⟨S_, .f32⟩
  | 57 => ⟨S8192, .f32⟩
  | 58 => ⟨S8192, .i1⟩
  | 59 => ⟨S8192, .f32⟩
  | 60 => ⟨S_, .f32⟩
  | 61 => ⟨S_, .f32⟩
  | 62 => ⟨S8192, .f32⟩
  | 63 => ⟨S8192, .f32⟩
  | 64 => ⟨S_, .i32⟩
  | 65 => ⟨S49152, .i32⟩
  | 66 => ⟨S49152, .i1⟩
  | 67 => ⟨S_, .i32⟩
  | 68 => ⟨S49152, .i32⟩
  | 69 => ⟨S49152, .i32⟩
  | 70 => ⟨S49152, .i32⟩
  | 71 => ⟨S49152x1, .i32⟩
  | 72 => ⟨S49152, .f32⟩
  | 73 => ⟨S_, .i32⟩
  | 74 => ⟨S49152, .i32⟩
  | 75 => ⟨S49152, .i1⟩
  | 76 => ⟨S_, .i32⟩
  | 77 => ⟨S49152, .i32⟩
  | 78 => ⟨S49152, .i32⟩
  | 79 => ⟨S49152, .i32⟩
  | 80 => ⟨S49152x1, .i32⟩
  | 81 => ⟨S49152, .f32⟩
  | 82 => ⟨S49152, .f32⟩
  | 83 => ⟨S8192x512, .f32⟩
  | 84 => ⟨S_, .f32⟩
  | 85 => ⟨S8192x512, .f32⟩
  | 86 => ⟨S49152x1, .f32⟩
  | 87 => ⟨S_, .i32⟩
  | 88 => ⟨S49152, .i32⟩
  | 89 => ⟨S49152, .i1⟩
  | 90 => ⟨S_, .i32⟩
  | 91 => ⟨S49152, .i32⟩
  | 92 => ⟨S49152, .i32⟩
  | 93 => ⟨S49152, .i32⟩
  | 94 => ⟨S49152x1, .i32⟩
  | 95 => ⟨S49152x512, .f32⟩
  | 96 => ⟨S49152x512, .f32⟩
  | 97 => ⟨S49152x512, .f32⟩
  | 98 => ⟨S_, .i32⟩
  | 99 => ⟨S49152, .i32⟩
  | 100 => ⟨S49152, .i1⟩
  | 101 => ⟨S_, .i32⟩
  | 102 => ⟨S49152, .i32⟩
  | 103 => ⟨S49152, .i32⟩
  | 104 => ⟨S49152, .i32⟩
  | 105 => ⟨S49152x1, .i32⟩
  | 106 => ⟨S8192x512, .f32⟩
  | 107 => ⟨S1x512, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192, .i32⟩
  | 114 => ⟨S49152, .i32⟩
  | 115 => ⟨S49152, .i32⟩
  | 116 => ⟨S_, .f32⟩
  | 117 => ⟨S49152, .f32⟩
  | 118 => ⟨S_, .f32⟩
  | 119 => ⟨S8192, .f32⟩
  | 120 => ⟨S_, .i32⟩
  | 121 => ⟨S49152, .i32⟩
  | 122 => ⟨S49152, .i1⟩
  | 123 => ⟨S_, .i32⟩
  | 124 => ⟨S49152, .i32⟩
  | 125 => ⟨S49152, .i32⟩
  | 126 => ⟨S49152, .i32⟩
  | 127 => ⟨S49152x1, .i32⟩
  | _ => ⟨S8x256x32x32, .f32⟩

abbrev hbmTy0_1 (i : Nat) : BufTy := match i % 128 with
  | 0 => ⟨S8192, .f32⟩
  | 1 => ⟨S_, .f32⟩
  | 2 => ⟨S8192, .f32⟩
  | 3 => ⟨S8192, .i1⟩
  | 4 => ⟨S8192, .f32⟩
  | 5 => ⟨S_, .f32⟩
  | 6 => ⟨S_, .f32⟩
  | 7 => ⟨S8192, .f32⟩
  | 8 => ⟨S8192, .f32⟩
  | 9 => ⟨S_, .i32⟩
  | 10 => ⟨S49152, .i32⟩
  | 11 => ⟨S49152, .i1⟩
  | 12 => ⟨S_, .i32⟩
  | 13 => ⟨S49152, .i32⟩
  | 14 => ⟨S49152, .i32⟩
  | 15 => ⟨S49152, .i32⟩
  | 16 => ⟨S49152x1, .i32⟩
  | 17 => ⟨S49152, .f32⟩
  | 18 => ⟨S_, .i32⟩
  | 19 => ⟨S49152, .i32⟩
  | 20 => ⟨S49152, .i1⟩
  | 21 => ⟨S_, .i32⟩
  | 22 => ⟨S49152, .i32⟩
  | 23 => ⟨S49152, .i32⟩
  | 24 => ⟨S49152, .i32⟩
  | 25 => ⟨S49152x1, .i32⟩
  | 26 => ⟨S49152, .f32⟩
  | 27 => ⟨S49152, .f32⟩
  | 28 => ⟨S8192x256, .f32⟩
  | 29 => ⟨S_, .f32⟩
  | 30 => ⟨S8192x256, .f32⟩
  | 31 => ⟨S49152x1, .f32⟩
  | 32 => ⟨S_, .i32⟩
  | 33 => ⟨S49152, .i32⟩
  | 34 => ⟨S49152, .i1⟩
  | 35 => ⟨S_, .i32⟩
  | 36 => ⟨S49152, .i32⟩
  | 37 => ⟨S49152, .i32⟩
  | 38 => ⟨S49152, .i32⟩
  | 39 => ⟨S49152x1, .i32⟩
  | 40 => ⟨S49152x256, .f32⟩
  | 41 => ⟨S49152x256, .f32⟩
  | 42 => ⟨S49152x256, .f32⟩
  | 43 => ⟨S_, .i32⟩
  | 44 => ⟨S49152, .i32⟩
  | 45 => ⟨S49152, .i1⟩
  | 46 => ⟨S_, .i32⟩
  | 47 => ⟨S49152, .i32⟩
  | 48 => ⟨S49152, .i32⟩
  | 49 => ⟨S49152, .i32⟩
  | 50 => ⟨S49152x1, .i32⟩
  | 51 => ⟨S8192x256, .f32⟩
  | 52 => ⟨S1x256, .f32⟩
  | 53 => ⟨S8192x256, .f32⟩
  | 54 => ⟨S8192x256, .f32⟩
  | 55 => ⟨S_, .f32⟩
  | 56 => ⟨S8192x256, .f32⟩
  | 57 => ⟨S8192x256, .f32⟩
  | 58 => ⟨S8x32x32x256, .f32⟩
  | 59 => ⟨S8x256x32x32, .f32⟩
  | _ => ⟨S8x256x32x32, .f32⟩

abbrev hbmTy (i : Nat) : BufTy := match i / 128 with
  | 0 => hbmTy0_0 i
  | 1 => hbmTy0_1 i
  | _ => ⟨S8x256x32x32, .f32⟩

abbrev bufTy : (tb : Table) → Fin (tcTables nBuf tb) → BufTy
  | .hbm, ⟨i, _⟩ => hbmTy i
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_values : Ref sig .tc := ⟨.hbm, 18, rfl⟩
abbrev main_indices : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_c_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_c_17 : Ref sig .tc := ⟨.hbm, 120, rfl⟩
abbrev main_v86 : Ref sig .tc := ⟨.hbm, 121, rfl⟩
abbrev main_v87 : Ref sig .tc := ⟨.hbm, 122, rfl⟩
abbrev main_c_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_20 : Ref sig .tc := ⟨.hbm, 133, rfl⟩
abbrev main_call3_v0 : Ref sig .tc := ⟨.hbm, 134, rfl⟩
abbrev main_call3_v1 : Ref sig .tc := ⟨.hbm, 135, rfl⟩
abbrev main_v96 : Ref sig .tc := ⟨.hbm, 136, rfl⟩
abbrev main_c_21 : Ref sig .tc := ⟨.hbm, 137, rfl⟩
abbrev main_v97 : Ref sig .tc := ⟨.hbm, 138, rfl⟩
abbrev main_v98 : Ref sig .tc := ⟨.hbm, 139, rfl⟩
abbrev main_c_22 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_23 : Ref sig .tc := ⟨.hbm, 146, rfl⟩
abbrev main_v104 : Ref sig .tc := ⟨.hbm, 147, rfl⟩
abbrev main_v105 : Ref sig .tc := ⟨.hbm, 148, rfl⟩
abbrev main_c_24 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_25 : Ref sig .tc := ⟨.hbm, 157, rfl⟩
abbrev main_v113 : Ref sig .tc := ⟨.hbm, 158, rfl⟩
abbrev main_v114 : Ref sig .tc := ⟨.hbm, 159, rfl⟩
abbrev main_c_26 : Ref sig .tc := ⟨.hbm, 160, rfl⟩
abbrev main_v115 : Ref sig .tc := ⟨.hbm, 161, rfl⟩
abbrev main_v116 : Ref sig .tc := ⟨.hbm, 162, rfl⟩
abbrev main_c_27 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_28 : Ref sig .tc := ⟨.hbm, 171, rfl⟩
abbrev main_v124 : Ref sig .tc := ⟨.hbm, 172, rfl⟩
abbrev main_v125 : Ref sig .tc := ⟨.hbm, 173, rfl⟩
abbrev main_c_29 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_call4_cst : Ref sig .tc := ⟨.hbm, 183, rfl⟩
abbrev main_call4_v0 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩

abbrev nD : Nat := 1
abbrev τ : Topo := Topo.v7x

variable {F : FTy → Type} [FloatOps F]
-- ==== Proof.Ranking.lean ====
/-
  The ranking of a row of scores, and four rounds of "take the greatest, blank it out".

  `order s` lists the columns of a row `s` by descending score, equal scores by ascending column: the order a stable
  descending sort gives. `cut s r` is the row with the first `r` columns of that list blanked out by `⊥`. One round of
  the kernel (`blank`) finds the row's maximum, the least column that attains it, and blanks that column out; this file
  shows that a round takes `cut s r` to `cut s (r + 1)` when no score of the row is `⊥` (`blank_cut`).
-/
module

public import Idealize.ShloMosaic.Lib.SortFacts
public import Idealize.ShloMosaic.PureOps.Ideal

@[expose] public section

noncomputable section

namespace Cert.Gcn

open Idealize.ShloMosaic

/-! ## The stable descending order -/

section order

variable {n : Nat} (s : Fin n → EReal)

/-- Column `a` comes before column `b`: a greater score, or an equal one at a lower column. -/
def Before (a b : Fin n) : Prop := s b < s a ∨ (s a = s b ∧ a < b)

/-- Being before is transitive. -/
theorem Before.trans {a b c : Fin n} (h : Before s a b) (h' : Before s b c) : Before s a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

/-- The comparison of the stable descending sort: a strictly greater score. -/
abbrev greater (a b : Fin n) : Bool := decide (s b < s a)

/-- Inserting a column that precedes all columns of an ordered list keeps the list ordered. -/
theorem pairwise_insert (a : Fin n) (l : List (Fin n)) (ha : ∀ b ∈ l, a < b) (hl : l.Pairwise (Before s)) :
    (insertBefore (greater s) a l).Pairwise (Before s) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact Or.inl (by simpa using h)
      · exact hl.1 c hc'
    · rename_i h
      have hab : Before s a b := by
        rcases lt_or_eq_of_le (not_lt.mp (by simpa using h : ¬ s a < s b)) with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · exact hab.trans s (hl.1 c hc')

/-- The stable sort of an increasing list of columns is ordered. -/
theorem pairwise_sort (l : List (Fin n)) (hl : l.Pairwise (· < ·)) : (stableSort (greater s) l).Pairwise (Before s) := by
  induction l with
  | nil => exact List.Pairwise.nil
  | cons a l ih =>
    rw [List.pairwise_cons] at hl
    unfold stableSort
    exact pairwise_insert s a _ (fun b hb => hl.1 b ((perm_stableSort _ l).mem_iff.mp hb)) (ih hl.2)

/-- The columns of a row, by descending score, equal scores by ascending column. -/
@[irreducible] def order : Fin n → Fin n := sortedFrom (greater s)

/-- A column ranked earlier comes before a column ranked later. -/
theorem order_before {i j : Fin n} (hij : i < j) : Before s (order s i) (order s j) := by
  have hp : ∀ a b : Fin (sortPositions n (greater s)).length, a < b →
      Before s ((sortPositions n (greater s)).get a) ((sortPositions n (greater s)).get b) :=
    List.pairwise_iff_get.mp (pairwise_sort s (List.finRange n) (List.pairwise_lt_finRange n))
  unfold order sortedFrom
  exact hp _ _ (by simp only [Fin.lt_def, Fin.val_cast]; exact hij)

/-- No column is ranked twice. -/
theorem order_injective : Function.Injective (order s) := by
  unfold order; exact sortedFrom_injective _

/-- Every column is ranked. -/
theorem order_surjective : Function.Surjective (order s) := by
  unfold order; exact sortedFrom_surjective _

end order

/-! ## One round of "take the greatest, blank it out" -/

section rounds

variable {n : Nat}

/-- The greatest score of a row. -/
def top (f : Fin n → EReal) : EReal := Finset.univ.fold max ⊥ f

/-- The least column, as a number, at which a row attains its greatest score (`big` where no column does). -/
def firstTop (big : EReal) (f : Fin n → EReal) : EReal :=
  Finset.univ.fold min ⊤ fun m : Fin n => if f m = top f then ((m.val : ℝ) : EReal) else big

/-- The row with its first greatest score blanked out. -/
def blank (big : EReal) (f : Fin n → EReal) : Fin n → EReal :=
  fun m => if ((m.val : ℝ) : EReal) = firstTop big f then ⊥ else f m

/-- The greatest score is the score of a column none exceeds. -/
theorem top_eq (f : Fin n → EReal) (j : Fin n) (h : ∀ m, f m ≤ f j) : top f = f j := by
  refine le_antisymm (?_ : Finset.univ.sup f ≤ f j) (?_ : f j ≤ Finset.univ.sup f)
  · exact Finset.sup_le fun m _ => h m
  · exact Finset.le_sup (Finset.mem_univ j)

/-- The first greatest column is the column that no column exceeds and every lower column falls short of. -/
theorem firstTop_eq (big : EReal) (hbig : ∀ m : Fin n, ((m.val : ℝ) : EReal) ≤ big) (f : Fin n → EReal) (j : Fin n)
    (h : ∀ m, f m ≤ f j) (hlt : ∀ m, m < j → f m < f j) : firstTop big f = ((j.val : ℝ) : EReal) := by
  unfold firstTop
  rw [top_eq f j h]
  refine le_antisymm (?_ : Finset.univ.inf _ ≤ _) (?_ : _ ≤ Finset.univ.inf _)
  · refine (Finset.inf_le (Finset.mem_univ j)).trans ?_
    rw [if_pos rfl]
  · refine Finset.le_inf fun m _ => ?_
    split
    · rename_i e
      have : j ≤ m := not_lt.mp fun hm => absurd e (hlt m hm).ne
      exact EReal.coe_le_coe_iff.mpr (Nat.cast_le.mpr this)
    · exact hbig j

/-- A round blanks out exactly that column. -/
theorem blank_eq (big : EReal) (hbig : ∀ m : Fin n, ((m.val : ℝ) : EReal) ≤ big) (f : Fin n → EReal) (j : Fin n)
    (h : ∀ m, f m ≤ f j) (hlt : ∀ m, m < j → f m < f j) (m : Fin n) :
    blank big f m = if m = j then ⊥ else f m := by
  unfold blank
  rw [firstTop_eq big hbig f j h hlt]
  have : (((m.val : ℝ) : EReal) = ((j.val : ℝ) : EReal)) ↔ m = j := by
    rw [EReal.coe_eq_coe_iff, Nat.cast_inj, Fin.ext_iff]
  simp only [this]

open Classical in
/-- A row with its `r` best ranked columns blanked out. -/
def cut (s : Fin n → EReal) (r : Nat) : Fin n → EReal :=
  fun m => if ∃ i : Fin n, i.val < r ∧ order s i = m then ⊥ else s m

/-- A round takes the row without its `r` best columns to the row without its `r + 1` best ones. -/
theorem blank_cut (big : EReal) (hbig : ∀ m : Fin n, ((m.val : ℝ) : EReal) ≤ big) (s : Fin n → EReal)
    (hs : ∀ m, s m ≠ ⊥) (r : Nat) (hr : r < n) : blank big (cut s r) = cut s (r + 1) := by
  have hj : cut s r (order s ⟨r, hr⟩) = s (order s ⟨r, hr⟩) := by
    unfold cut
    refine if_neg ?_
    rintro ⟨i, hi, e⟩
    have := order_injective s e
    rw [this] at hi; exact absurd hi (lt_irrefl r)
  have key : ∀ m, cut s r m = ⊥ ∨ ∃ i : Fin n, r ≤ i.val ∧ order s i = m ∧ cut s r m = s m := by
    intro m
    obtain ⟨i, rfl⟩ := order_surjective s m
    by_cases hi : i.val < r
    · left; unfold cut; exact if_pos ⟨i, hi, rfl⟩
    · right
      refine ⟨i, not_lt.mp hi, rfl, ?_⟩
      unfold cut
      refine if_neg ?_
      rintro ⟨i', hi', e⟩
      exact hi (order_injective s e ▸ hi')
  have hle : ∀ m, cut s r m ≤ cut s r (order s ⟨r, hr⟩) := by
    intro m
    rcases key m with h | ⟨i, hi, rfl, h⟩
    · rw [h]; exact bot_le
    · rw [h, hj]
      rcases Nat.eq_or_lt_of_le hi with e | hlt
      · rw [show i = ⟨r, hr⟩ from Fin.ext e.symm]
      · rcases order_before s (i := ⟨r, hr⟩) (j := i) hlt with h' | ⟨h', _⟩
        · exact h'.le
        · exact h'.symm.le
  have hlt : ∀ m, m < order s ⟨r, hr⟩ → cut s r m < cut s r (order s ⟨r, hr⟩) := by
    intro m hm
    rcases key m with h | ⟨i, hi, rfl, h⟩
    · rw [h, hj]; exact bot_lt_iff_ne_bot.mpr (hs _)
    · rw [h, hj]
      rcases Nat.eq_or_lt_of_le hi with e | hlt
      · rw [show i = ⟨r, hr⟩ from Fin.ext e.symm] at hm; exact absurd hm (lt_irrefl _)
      · rcases order_before s (i := ⟨r, hr⟩) (j := i) hlt with h' | ⟨_, h'⟩
        · exact h'
        · exact absurd (hm.trans h') (lt_irrefl _)
  funext m
  rw [blank_eq big hbig _ _ hle hlt m]
  unfold cut
  by_cases hm : m = order s ⟨r, hr⟩
  · rw [if_pos hm, if_pos ⟨⟨r, hr⟩, Nat.lt_succ_self r, hm.symm⟩]
  · rw [if_neg hm]
    congr 1
    refine propext ⟨fun ⟨i, hi, e⟩ => ⟨i, Nat.lt_succ_of_lt hi, e⟩, fun ⟨i, hi, e⟩ => ⟨i, ?_, e⟩⟩
    rcases Nat.lt_succ_iff_lt_or_eq.mp hi with h | h
    · exact h
    · exact absurd (by rw [← e]; congr 1; exact Fin.ext h) hm

open Classical in
/-- The row without its best ranked column `d` is the row with column `d` blanked out. -/
theorem cut_one (s : Fin n → EReal) (hn : 0 < n) (d : Fin n) (hd : order s ⟨0, hn⟩ = d) :
    cut s 1 = fun m => if d = m then ⊥ else s m := by
  funext m
  unfold cut
  congr 1
  refine propext ⟨fun ⟨i, hi, e⟩ => ?_, fun e => ⟨⟨0, hn⟩, Nat.one_pos, hd.trans e⟩⟩
  rw [← hd, ← e]; congr 1; exact Fin.ext (Nat.lt_one_iff.mp hi).symm

end rounds

end Cert.Gcn

end
-- ==== Proof.Spec.lean ====
/-
  What one feature map is turned into, in plain mathematics over the extended reals.

  A feature map is `X : Fin 1024 → Fin 256 → EReal`: 1024 pixels of 256 channels. `sim X` are the cosine similarities of
  its pixels. A graph on the pixels is a matrix `a`, `a n m = 1` for an edge from `n` to `m`. `layer` is one graph
  convolution: each pixel gets the features of the pixels that point to it, weighted by the degrees, twice its own
  features weighted by its degree, and the bias; then the rectifier. `graph X` is the graph where each pixel points to
  the four pixels most similar to it after the first of its ranking, and `net` the two layers over it.
-/
module

public import proofs.«01_k».proof.Proof.Ranking

@[expose] public section

noncomputable section

namespace Cert.Gcn

open Idealize.ShloMosaic

/-! ## Definitions -/

/-- The least divisor of the normalisation: the value of the single precision number 1e-12. -/
def eps : EReal := Ideal.ofBits .f32 0x2B8CBCCC#32

/-- The length of a pixel's feature vector. -/
def len (X : Fin 1024 → Fin 256 → EReal) (n : Fin 1024) : EReal := Ideal.sqrt (∑ c, X n c * X n c)

/-- A pixel's feature vector scaled to length one. -/
def unit (X : Fin 1024 → Fin 256 → EReal) (n : Fin 1024) (c : Fin 256) : EReal := Ideal.div (X n c) (max (len X n) eps)

/-- The cosine similarity of two pixels. -/
def sim (X : Fin 1024 → Fin 256 → EReal) (n m : Fin 1024) : EReal := ∑ c, unit X n c * unit X m c

/-- Pixel `m` is among the four that come after the first in the ranking of pixel `n`. -/
def Nbr (s : Fin 1024 → Fin 1024 → EReal) (n m : Fin 1024) : Prop :=
  ∃ k : Fin 4, order (s n) ⟨k.val + 1, by omega⟩ = m

open Classical in
/-- The graph of a similarity matrix. -/
def graph (s : Fin 1024 → Fin 1024 → EReal) (n m : Fin 1024) : EReal := if Nbr s n m then 1 else 0

/-- A pixel's degree: the edges into it and two loops. -/
def deg (a : Fin 1024 → Fin 1024 → EReal) (m : Fin 1024) : EReal := (∑ n, a n m) + 2

/-- The reciprocal square root of the degree. -/
def dinv (a : Fin 1024 → Fin 1024 → EReal) (m : Fin 1024) : EReal := Ideal.rsqrt (deg a m)

/-- A linear map applied to every pixel. -/
def lin {p q : Nat} (H : Fin 1024 → Fin p → EReal) (W : Fin p → Fin q → EReal) (m : Fin 1024) (c : Fin q) : EReal :=
  ∑ k, H m k * W k c

/-- One graph convolution over already transformed features `h`, with bias `b`, and the rectifier. -/
def layer {q : Nat} (a : Fin 1024 → Fin 1024 → EReal) (h : Fin 1024 → Fin q → EReal) (b : Fin q → EReal)
    (m : Fin 1024) (c : Fin q) : EReal :=
  max (dinv a m * (∑ n, a n m * (dinv a n * h n c)) + 2 * (dinv a m * dinv a m) * h m c + b c) 0

/-- Two graph convolutions over the graph `a`. -/
def net (a : Fin 1024 → Fin 1024 → EReal) (X : Fin 1024 → Fin 256 → EReal) (W1 : Fin 256 → Fin 512 → EReal)
    (b1 : Fin 512 → EReal) (W2 : Fin 512 → Fin 256 → EReal) (b2 : Fin 256 → EReal) : Fin 1024 → Fin 256 → EReal :=
  layer a (lin (layer a (lin X W1) b1) W2) b2

/-! ## The graph and the blanked rows -/

/-- A row whose own similarity ranks first: the entry is blanked out and off the diagonal exactly when its column is one
    of the four ranked next. -/
theorem graph_of_cut (s : Fin 1024 → Fin 1024 → EReal) (hs : ∀ n m, s n m ≠ ⊥) (n m : Fin 1024)
    (hfirst : order (s n) 0 = n) : (cut (s n) 5 m = ⊥ ∧ n ≠ m) ↔ Nbr s n m := by
  unfold cut Nbr
  constructor
  · rintro ⟨h, hnm⟩
    by_cases e : ∃ i : Fin 1024, i.val < 5 ∧ order (s n) i = m
    · obtain ⟨i, hi, e⟩ := e
      have h0 : i.val ≠ 0 := fun h0 => hnm (hfirst.symm.trans ((congrArg (order (s n)) (Fin.ext h0.symm)).trans e))
      refine ⟨⟨i.val - 1, by omega⟩, ?_⟩
      exact (congrArg (order (s n)) (Fin.ext (by simp only; omega))).trans e
    · rw [if_neg e] at h; exact absurd h (hs n m)
  · rintro ⟨k, e⟩
    refine ⟨if_pos ⟨_, by simp only; omega, e⟩, fun hnm => ?_⟩
    have := order_injective (s n) (e.trans (hnm.symm.trans hfirst.symm))
    exact absurd (congrArg Fin.val this) (Nat.succ_ne_zero _)

/-! ## The constants -/

/-- The least divisor is positive. -/
theorem eps_pos : 0 < eps := by
  unfold eps
  simp [Ideal.ofBits, Ideal.ieee]
  rw [← EReal.coe_mul]
  exact EReal.coe_pos.mpr (by norm_num)

/-- The pattern of the number two. -/
theorem ofBits_two : Ideal.ofBits .f32 0x40000000#32 = 2 := by
  simp [Ideal.ofBits, Ideal.ieee]
  rw [← EReal.coe_mul]
  norm_num
  rfl

/-- The pattern of the number 1024. -/
theorem ofBits_1024 : Ideal.ofBits .f32 0x44800000#32 = ((1024 : ℝ) : EReal) := by
  simp [Ideal.ofBits, Ideal.ieee]
  rw [← EReal.coe_mul]
  norm_num

/-- The pattern of minus infinity. -/
theorem ofBits_bot : Ideal.ofBits .f32 0xFF800000#32 = ⊥ := by
  simp [Ideal.ofBits, Ideal.ieee]

/-- The pattern of plus infinity. -/
theorem ofBits_top : Ideal.ofBits .f32 0x7F800000#32 = ⊤ := by
  simp [Ideal.ofBits, Ideal.ieee]

/-! ## A similarity is never minus infinity -/

/-- The square of an extended real is nonnegative. -/
theorem mul_self_nonneg' (x : EReal) : 0 ≤ x * x := by
  induction x with
  | bot => simp
  | top => simp
  | coe r => exact_mod_cast mul_self_nonneg r

/-- A normalised feature is a real number. -/
theorem unit_real (X : Fin 1024 → Fin 256 → EReal) (n : Fin 1024) (c : Fin 256) : ∃ r : ℝ, unit X n c = (r : EReal) := by
  have hpos : 0 < max (len X n) eps := lt_max_of_lt_right eps_pos
  unfold unit Ideal.div
  rw [if_neg hpos.ne']
  by_cases htop : max (len X n) eps = ⊤
  · exact ⟨0, by rw [htop]; simp⟩
  · have hx : X n c * X n c ≠ ⊤ := by
      intro h
      have hs : (∑ c, X n c * X n c) = ⊤ := by
        refine top_le_iff.mp (h ▸ ?_)
        exact Finset.single_le_sum (f := fun c => X n c * X n c) (fun c _ => mul_self_nonneg' _) (Finset.mem_univ c)
      refine htop (top_le_iff.mp (le_trans ?_ (le_max_left _ _)))
      unfold len
      rw [hs]; exact le_rfl
    have hxr : ∃ x : ℝ, X n c = (x : EReal) := by
      revert hx
      induction X n c with
      | bot => simp
      | top => simp
      | coe r => exact fun _ => ⟨r, rfl⟩
    obtain ⟨x, hx⟩ := hxr
    have hd : ∃ d : ℝ, max (len X n) eps = (d : EReal) := by
      revert htop hpos
      induction max (len X n) eps with
      | bot => simp
      | top => simp
      | coe r => exact fun _ _ => ⟨r, rfl⟩
    obtain ⟨d, hd⟩ := hd
    refine ⟨x * d⁻¹, ?_⟩
    rw [hx, hd, EReal.coe_mul, EReal.coe_inv]

/-- A similarity is a real number, so not minus infinity. -/
theorem sim_ne_bot (X : Fin 1024 → Fin 256 → EReal) (n m : Fin 1024) : sim X n m ≠ ⊥ := by
  choose u hu using unit_real X
  unfold sim
  simp only [hu, ← EReal.coe_mul]
  have : ∀ S : Finset (Fin 256), (∑ c ∈ S, ((u n c * u m c : ℝ) : EReal)) ≠ ⊥ := by
    intro S
    induction S using Finset.induction_on with
    | empty => simp
    | insert a S ha ih =>
      rw [Finset.sum_insert ha]
      intro h
      rcases EReal.add_eq_bot_iff.mp h with h | h
      · exact EReal.coe_ne_bot _ h
      · exact ih h
  exact this _

/-! ## Degrees -/

/-- A sum of reals, read as an extended real, is the sum of the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum of zeros and ones is a nonnegative real. -/
theorem sum_graph_real (s : Fin 1024 → Fin 1024 → EReal) (m : Fin 1024) :
    ∃ r : ℝ, 0 ≤ r ∧ (∑ n, graph s n m) = (r : EReal) := by
  classical
  refine ⟨∑ n, if Nbr s n m then 1 else 0, Finset.sum_nonneg fun n _ => by split <;> norm_num, ?_⟩
  rw [coe_sum]
  refine Finset.sum_congr rfl fun n _ => ?_
  unfold graph
  split <;> simp

/-- A degree is a real number, at least two. -/
theorem deg_real (s : Fin 1024 → Fin 1024 → EReal) (m : Fin 1024) :
    ∃ r : ℝ, 0 < r ∧ deg (graph s) m = (r : EReal) := by
  obtain ⟨r, h0, h⟩ := sum_graph_real s m
  refine ⟨r + 2, by linarith, ?_⟩
  unfold deg
  rw [h]
  exact_mod_cast rfl

/-- A degree is positive. -/
theorem deg_pos (s : Fin 1024 → Fin 1024 → EReal) (m : Fin 1024) : 0 < deg (graph s) m := by
  obtain ⟨r, h0, h⟩ := deg_real s m
  rw [h]; exact_mod_cast h0

/-- The reciprocal square root of a degree is a positive real. -/
theorem dinv_real (s : Fin 1024 → Fin 1024 → EReal) (m : Fin 1024) :
    ∃ r : ℝ, 0 < r ∧ dinv (graph s) m = (r : EReal) := by
  obtain ⟨r, h0, h⟩ := deg_real s m
  refine ⟨(√r)⁻¹, inv_pos.mpr (Real.sqrt_pos.mpr h0), ?_⟩
  unfold dinv
  rw [h]
  change (if r < 0 then ⊥ else if r = 0 then ⊤ else (((√r)⁻¹ : ℝ) : EReal)) = _
  rw [if_neg (not_lt.mpr h0.le), if_neg h0.ne']

/-! ## The convolution, edge by edge -/

/-- A nonnegative real factor goes into a sum of extended reals. -/
theorem mul_sum_real {ι : Type*} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, ← ih]
    exact EReal.left_distrib_of_nonneg_of_ne_top (by exact_mod_cast hr) (EReal.coe_ne_top r) _ _

/-- The four ranks after the first name four different pixels, so summing over the ranks that name `m` is asking
    whether one of them does. -/
theorem sum_rank (s : Fin 1024 → Fin 1024 → EReal) (n m : Fin 1024) (v : EReal) :
    (∑ k : Fin 4, if order (s n) ⟨k.val + 1, by omega⟩ = m then v else 0) = graph s n m * v := by
  classical
  unfold graph
  by_cases h : Nbr s n m
  · obtain ⟨k, hk⟩ := h
    rw [if_pos ⟨k, hk⟩, one_mul, Finset.sum_eq_single k]
    · rw [if_pos hk]
    · intro k' _ hne
      refine if_neg fun e => hne ?_
      have := order_injective (s n) (e.trans hk.symm)
      simp only [Fin.mk.injEq, Nat.add_right_cancel_iff] at this
      exact Fin.ext this
    · exact fun h => absurd (Finset.mem_univ k) h
  · rw [if_neg h, zero_mul]
    exact Finset.sum_eq_zero fun k _ => if_neg fun e => h ⟨k, e⟩

/-- One graph convolution written as a sum over the edges into a pixel, the four ranked edges of each pixel and the two
    loops, each weighted by the two degrees. -/
theorem layer_edges {q : Nat} (s : Fin 1024 → Fin 1024 → EReal) (h : Fin 1024 → Fin q → EReal) (b : Fin q → EReal)
    (m : Fin 1024) (c : Fin q) :
    max (((∑ n, ∑ k : Fin 4, if order (s n) ⟨k.val + 1, by omega⟩ = m then
        dinv (graph s) n * dinv (graph s) m * h n c else 0)
      + dinv (graph s) m * dinv (graph s) m * h m c + dinv (graph s) m * dinv (graph s) m * h m c) + b c) 0
      = layer (graph s) h b m c := by
  unfold layer
  refine congrArg (fun x => max (x + b c) 0) ?_
  obtain ⟨d, hd0, hd⟩ := dinv_real s m
  rw [add_assoc]
  refine congrArg₂ (· + ·) ?_ ?_
  · rw [hd, mul_sum_real _ d hd0.le]
    refine Finset.sum_congr rfl fun n _ => ?_
    rw [sum_rank]
    rw [mul_comm (dinv (graph s) n) (d : EReal)]
    simp only [mul_assoc, mul_left_comm]
  · have hp : (0 : EReal) ≤ dinv (graph s) m * dinv (graph s) m := mul_self_nonneg' _
    rw [← EReal.right_distrib_of_nonneg hp hp, hd]
    refine congrArg (· * h m c) ?_
    have h2 : (2 : EReal) = ((2 : ℝ) : EReal) := rfl
    rw [h2, ← EReal.coe_mul, ← EReal.coe_add, ← EReal.coe_mul, two_mul]

/-- A degree written as a count of the edges into a pixel. -/
theorem deg_edges (s : Fin 1024 → Fin 1024 → EReal) (m : Fin 1024) :
    (∑ n, ∑ k : Fin 4, if order (s n) ⟨k.val + 1, by omega⟩ = m then (1 : EReal) else 0) + 1 + 1 = deg (graph s) m := by
  have key : (∑ n, ∑ k : Fin 4, if order (s n) ⟨k.val + 1, by omega⟩ = m then (1 : EReal) else 0)
      = ∑ n, graph s n m :=
    Finset.sum_congr rfl fun n _ => (sum_rank s n m 1).trans (mul_one _)
  unfold deg
  rw [key, add_assoc, one_add_one_eq_two]

end Cert.Gcn

end
-- ==== Proof.ImageDef.lean ====
/-
  What the kernel computes for one image of a block, as functions of whole arrays.

  `unitV`, `simV`, `roundV`, `adjV`, `dinvV`, `layer1V`, `layer2V` are the kernel's steps. The block function prints
  them once for each of its four images, cut at different places; `Pieces.lean` shows the four to be the same function
  `imageV`.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Gen

open Idealize.ShloMosaic Cert.Gcn

/-! ## The steps, as functions of whole arrays -/

/-- The pixels' feature vectors scaled to length one. -/
def unitV (x : FVec Ideal S1024x256 .f32) : FVec Ideal S1024x256 .f32 :=
  divf x (broadcastTo S1024x256 (maximumf (sqrt (shapeCast S1024x1
    (multiReduction .add [1] S1024 (mulf x x) 0x00000000#32 reduces_S1024x256_S1024 (.inl rfl) rfl) shapeCasts_S1024_S1024x1))
    (broadcast S1024x1 (Scalar.ofBits .f32 0x2B8CBCCC#32))) broadcasts_S1024x1_S1024x256)

/-- The similarities of all pairs of pixels. -/
def simV (x : FVec Ideal S1024x256 .f32) : FVec Ideal S1024x1024 .f32 :=
  matmul dot_S1024x256_S1024x256_S1024x1024_1_1_0_0_n_n none (unitV x) (unitV x) (constant S1024x1024 .f32 0x00000000#32)

/-- Where row and column are the same pixel. -/
def diagV : IVec S1024x1024 1 :=
  cmpi .eq (iota .tc S1024x1024 32 [0] iota_S1024x1024_d0_w32) (iota .tc S1024x1024 32 [1] iota_S1024x1024_d1_w32)

/-- Each entry's column, as a number. -/
def colV : FVec Ideal S1024x1024 .f32 := sitofp .f32 (iota .tc S1024x1024 32 [1] iota_S1024x1024_d1_w32)

/-- The similarities with every pixel's own blanked out. -/
def maskV (x : FVec Ideal S1024x256 .f32) : FVec Ideal S1024x1024 .f32 :=
  select diagV (broadcast S1024x1024 (Scalar.ofBits .f32 0xFF800000#32)) (simV x)

/-- Each row's greatest entry, along the row. -/
def topV (v : FVec Ideal S1024x1024 .f32) : FVec Ideal S1024x1024 .f32 :=
  broadcastTo S1024x1024 (shapeCast S1024x1
    (multiReduction .maximumf [1] S1024 v 0xFF800000#32 reduces_S1024x1024_S1024 (.inl rfl) rfl) shapeCasts_S1024_S1024x1)
    broadcasts_S1024x1_S1024x1024

/-- Each row's first column with the greatest entry, along the row. -/
def firstV (v : FVec Ideal S1024x1024 .f32) : FVec Ideal S1024x1024 .f32 :=
  broadcastTo S1024x1024 (shapeCast S1024x1
    (multiReduction .minimumf [1] S1024
      (select (cmpf .oeq v (topV v)) colV (broadcast S1024x1024 (Scalar.ofBits .f32 0x44800000#32)))
      0x7F800000#32 reduces_S1024x1024_S1024 (.inl rfl) rfl) shapeCasts_S1024_S1024x1)
    broadcasts_S1024x1_S1024x1024

/-- One round: each row's first greatest entry blanked out. -/
def roundV (v : FVec Ideal S1024x1024 .f32) : FVec Ideal S1024x1024 .f32 :=
  select (cmpf .oeq colV (firstV v)) (broadcast S1024x1024 (Scalar.ofBits .f32 0xFF800000#32)) v

/-- One where an entry is blanked out and not on the diagonal, else zero. -/
def adjV (v : FVec Ideal S1024x1024 .f32) : FVec Ideal S1024x1024 .f32 :=
  select (andi (cmpf .oeq v (broadcast S1024x1024 (Scalar.ofBits .f32 0xFF800000#32)))
      (xori diagV (constantI S1024x1024 1 1#1)))
    (broadcast S1024x1024 (Scalar.ofBits .f32 0x3F800000#32)) (broadcast S1024x1024 (Scalar.ofBits .f32 0x00000000#32))

/-- The reciprocal square roots of the degrees. -/
def dinvV (a : FVec Ideal S1024x1024 .f32) : FVec Ideal S1024x1 .f32 :=
  rsqrt (addf (matmul dot_S1024x1024_S1024x1_S1024x1_0_0_1_1_n_n none a
    (broadcast S1024x1 (Scalar.ofBits .f32 0x3F800000#32)) (constant S1024x1 .f32 0x00000000#32))
    (broadcast S1024x1 (Scalar.ofBits .f32 0x40000000#32)))

/-- Twice the squares of the reciprocal square roots. -/
def loopV (a : FVec Ideal S1024x1024 .f32) : FVec Ideal S1024x1 .f32 :=
  mulf (broadcast S1024x1 (Scalar.ofBits .f32 0x40000000#32)) (mulf (dinvV a) (dinvV a))

/-- The first layer's linear map. -/
def lin1V (x : FVec Ideal S1024x256 .f32) (W : FVec Ideal S256x512 .f32) : FVec Ideal S1024x512 .f32 :=
  matmul dot_S1024x256_S256x512_S1024x512_1_0_0_1_n_n none x W (constant S1024x512 .f32 0x00000000#32)

/-- The first layer's convolution. -/
def layer1V (a : FVec Ideal S1024x1024 .f32) (h : FVec Ideal S1024x512 .f32) (b : FVec Ideal S1x512 .f32) :
    FVec Ideal S1024x512 .f32 :=
  maximumf (addf (addf
    (mulf (broadcastTo S1024x512 (dinvV a) broadcasts_S1024x1_S1024x512)
      (matmul dot_S1024x1024_S1024x512_S1024x512_0_0_1_1_n_n none a
        (mulf (broadcastTo S1024x512 (dinvV a) broadcasts_S1024x1_S1024x512) h) (constant S1024x512 .f32 0x00000000#32)))
    (mulf (broadcastTo S1024x512 (loopV a) broadcasts_S1024x1_S1024x512) h))
    (broadcastTo S1024x512 (shapeCast S1x512 b shapeCasts_S1x512_S1x512) broadcasts_S1x512_S1024x512))
    (broadcast S1024x512 (Scalar.ofBits .f32 0x00000000#32))

/-- The second layer's linear map. -/
def lin2V (x : FVec Ideal S1024x512 .f32) (W : FVec Ideal S512x256 .f32) : FVec Ideal S1024x256 .f32 :=
  matmul dot_S1024x512_S512x256_S1024x256_1_0_0_1_n_n none x W (constant S1024x256 .f32 0x00000000#32)

/-- The second layer's convolution. -/
def layer2V (a : FVec Ideal S1024x1024 .f32) (h : FVec Ideal S1024x256 .f32) (b : FVec Ideal S1x256 .f32) :
    FVec Ideal S1024x256 .f32 :=
  maximumf (addf (addf
    (mulf (broadcastTo S1024x256 (dinvV a) broadcasts_S1024x1_S1024x256)
      (matmul dot_S1024x1024_S1024x256_S1024x256_0_0_1_1_n_n none a
        (mulf (broadcastTo S1024x256 (dinvV a) broadcasts_S1024x1_S1024x256) h) (constant S1024x256 .f32 0x00000000#32)))
    (mulf (broadcastTo S1024x256 (loopV a) broadcasts_S1024x1_S1024x256) h))
    (broadcastTo S1024x256 (shapeCast S1x256 b shapeCasts_S1x256_S1x256) broadcasts_S1x256_S1024x256))
    (broadcast S1024x256 (Scalar.ofBits .f32 0x00000000#32))

/-- The kernel's graph of one image. -/
def graphV (x : FVec Ideal S1024x256 .f32) : FVec Ideal S1024x1024 .f32 :=
  adjV (roundV (roundV (roundV (roundV (maskV x)))))

/-- What the kernel computes for one image. -/
def imageV (v : FVec Ideal S1x1024x256 .f32) (W1 : FVec Ideal S256x512 .f32) (b1 : FVec Ideal S1x512 .f32)
    (W2 : FVec Ideal S512x256 .f32) (b2 : FVec Ideal S1x256 .f32) : FVec Ideal S1x1024x256 .f32 :=
  shapeCast S1x1024x256
    (layer2V (graphV (shapeCast S1024x256 v shapeCasts_S1x1024x256_S1024x256))
      (lin2V (layer1V (graphV (shapeCast S1024x256 v shapeCasts_S1x1024x256_S1024x256))
        (lin1V (shapeCast S1024x256 v shapeCasts_S1x1024x256_S1024x256) W1) b1) W2) b2)
    shapeCasts_S1024x256_S1x1024x256

end Cert.KernelIdeal.Gen

end
-- ==== Proof.Pieces.lean ====
/-
  The four images of a block are computed by one function.
-/
module

public import proofs.«01_k».proof.Proof.ImageDef
public import proofs.«01_k».proof.Proof.Gen.KernelIdeal.Frame

@[expose] public section

set_option maxRecDepth 16384

noncomputable section

namespace Cert.KernelIdeal.Gen

open Idealize.ShloMosaic

/-- What the block function leaves in its output block: `imageV` of each of the four images. -/
theorem out_pieces (x0 : Vec Ideal S4x1024x256 .f32) (x1 : Vec Ideal S256x512 .f32) (x2 : Vec Ideal S1x512 .f32)
    (x3 : Vec Ideal S512x256 .f32) (x4 : Vec Ideal S1x256 .f32) :
    out0_5 x0 x1 x2 x3 x4 = View.canon
      [⟨r0_7, imageV (View.ld x0 r0_7) (View.ld x1 r0_1) (View.ld x2 r0_2) (View.ld x3 r0_3) (View.ld x4 r0_4)⟩,
       ⟨r0_6, imageV (View.ld x0 r0_6) (View.ld x1 r0_1) (View.ld x2 r0_2) (View.ld x3 r0_3) (View.ld x4 r0_4)⟩,
       ⟨r0_5, imageV (View.ld x0 r0_5) (View.ld x1 r0_1) (View.ld x2 r0_2) (View.ld x3 r0_3) (View.ld x4 r0_4)⟩,
       ⟨r0_0, imageV (View.ld x0 r0_0) (View.ld x1 r0_1) (View.ld x2 r0_2) (View.ld x3 r0_3) (View.ld x4 r0_4)⟩] := by
  rfl

end Cert.KernelIdeal.Gen

end
-- ==== Proof.Image.lean ====
/-
  The kernel's steps for one image read at an index: each is the step of `Spec.lean`.
-/
module

public import proofs.«01_k».proof.Proof.ImageDef
public import Idealize.ShloMosaic.Lib.Pointwise

@[expose] public section

set_option maxRecDepth 16384

noncomputable section

namespace Cert.KernelIdeal.Gen

open Idealize.ShloMosaic Cert.Gcn

/-! ## The steps at an index -/

/-- The scaled pixels are the pixels scaled to length one. -/
theorem unitV_apply (x : FVec Ideal S1024x256 .f32) (n : Fin 1024) (c : Fin 256) :
    unitV x (ix2 n c) = unit (fun n c => x (ix2 n c)) n c := by
  pointwise [unitV, unit, len, eps]

/-- The products of the scaled pixels are the similarities. -/
theorem simV_apply (x : FVec Ideal S1024x256 .f32) (n m : Fin 1024) :
    simV x (ix2 n m) = sim (fun n c => x (ix2 n c)) n m := by
  pointwise [simV, sim, unitV_apply]

/-- The diagonal's mask: one where the row is the column. -/
theorem diagV_apply (n m : Fin 1024) : diagV (ix2 n m) = if n = m then 1#1 else 0#1 := by
  pointwise [diagV]
  have h : (BitVec.ofNat 32 n.val = BitVec.ofNat 32 m.val) ↔ n = m := by
    rw [← BitVec.toNat_inj, BitVec.toNat_ofNat, BitVec.toNat_ofNat, Nat.mod_eq_of_lt (by omega),
      Nat.mod_eq_of_lt (by omega), Fin.ext_iff]
  change BitVec.ofBool (BitVec.ofNat 32 n.val == BitVec.ofNat 32 m.val) = _
  by_cases e : n = m
  · rw [if_pos e, beq_iff_eq.mpr (h.mpr e)]; rfl
  · rw [if_neg e, beq_eq_false_iff_ne.mpr fun e' => e (h.mp e')]; rfl

/-- The column numbers as reals. -/
theorem colV_apply (n m : Fin 1024) : colV (ix2 n m) = ((m.val : ℝ) : EReal) := by
  pointwise [colV]
  change (((BitVec.ofNat 32 m.val).toInt : ℝ) : EReal) = _
  have h : (BitVec.ofNat 32 m.val).toInt = (m.val : ℤ) := by
    rw [BitVec.toInt_eq_toNat_of_lt (by rw [BitVec.toNat_ofNat]; omega), BitVec.toNat_ofNat,
      Nat.mod_eq_of_lt (by omega)]
  rw [h, Int.cast_natCast]

/-- The similarities with the diagonal blanked out. -/
theorem maskV_apply (x : FVec Ideal S1024x256 .f32) (n m : Fin 1024) :
    maskV x (ix2 n m) = if n = m then ⊥ else sim (fun n c => x (ix2 n c)) n m := by
  pointwise [maskV, diagV_apply, simV_apply]
  rw [ofBits_bot]
  split <;> rfl

/-- The greatest entry of each row. -/
theorem topV_apply (v : FVec Ideal S1024x1024 .f32) (n m : Fin 1024) : topV v (ix2 n m) = top fun m => v (ix2 n m) := by
  pointwise [topV, top]
  rw [ofBits_bot]

/-- The least column that attains the greatest entry of its row. -/
theorem firstV_apply (v : FVec Ideal S1024x1024 .f32) (n m : Fin 1024) :
    firstV v (ix2 n m) = firstTop ((1024 : ℝ) : EReal) fun m => v (ix2 n m) := by
  pointwise [firstV, firstTop, topV_apply, colV_apply]
  rw [ofBits_top, ofBits_1024]

/-- One round blanks out the first greatest entry of each row. -/
theorem roundV_apply (v : FVec Ideal S1024x1024 .f32) (n m : Fin 1024) :
    roundV v (ix2 n m) = blank ((1024 : ℝ) : EReal) (fun m => v (ix2 n m)) m := by
  pointwise [roundV, blank, firstV_apply, colV_apply]
  rw [ofBits_bot]

/-- The matrix of edges: one where an entry off the diagonal is blanked out. -/
theorem adjV_apply (v : FVec Ideal S1024x1024 .f32) (n m : Fin 1024) :
    adjV v (ix2 n m) = if v (ix2 n m) = ⊥ ∧ n ≠ m then 1 else 0 := by
  pointwise [adjV, diagV_apply]
  rw [ofBits_bot]
  by_cases e : n = m
  · rw [if_pos e, if_neg fun h => h.2 e]
    cases decide (v (ix2 n m) = ⊥) <;> rfl
  · rw [if_neg e]
    by_cases h : v (ix2 n m) = ⊥
    · rw [if_pos ⟨h, e⟩, decide_eq_true h]; rfl
    · rw [if_neg fun h' => h h'.1, decide_eq_false h]; rfl

/-- The weights of the pixels: the reciprocal square roots of the degrees. -/
theorem dinvV_apply (a : FVec Ideal S1024x1024 .f32) (m : Fin 1024) (l : Fin 1) :
    dinvV a (ix2 m l) = dinv (fun n m => a (ix2 n m)) m := by
  pointwise [dinvV, dinv, deg]
  rw [ofBits_two]

/-- The weight of the two loops at a pixel. -/
theorem loopV_apply (a : FVec Ideal S1024x1024 .f32) (m : Fin 1024) (l : Fin 1) :
    loopV a (ix2 m l) = 2 * (dinv (fun n m => a (ix2 n m)) m * dinv (fun n m => a (ix2 n m)) m) := by
  pointwise [loopV, dinvV_apply]
  rw [ofBits_two]

/-- The first layer's linear map. -/
theorem lin1V_apply (x : FVec Ideal S1024x256 .f32) (W : FVec Ideal S256x512 .f32) (m : Fin 1024) (c : Fin 512) :
    lin1V x W (ix2 m c) = lin (fun n c => x (ix2 n c)) (fun k c => W (ix2 k c)) m c := by
  pointwise [lin1V, lin]

/-- The second layer's linear map. -/
theorem lin2V_apply (x : FVec Ideal S1024x512 .f32) (W : FVec Ideal S512x256 .f32) (m : Fin 1024) (c : Fin 256) :
    lin2V x W (ix2 m c) = lin (fun n c => x (ix2 n c)) (fun k c => W (ix2 k c)) m c := by
  pointwise [lin2V, lin]

/-- The first layer's convolution and rectifier. -/
theorem layer1V_apply (a : FVec Ideal S1024x1024 .f32) (h : FVec Ideal S1024x512 .f32) (b : FVec Ideal S1x512 .f32)
    (m : Fin 1024) (c : Fin 512) :
    layer1V a h b (ix2 m c) = layer (fun n m => a (ix2 n m)) (fun n c => h (ix2 n c)) (fun c => b (ix2 0 c)) m c := by
  pointwise [layer1V, layer, dinvV_apply, loopV_apply]

/-- The second layer's convolution and rectifier. -/
theorem layer2V_apply (a : FVec Ideal S1024x1024 .f32) (h : FVec Ideal S1024x256 .f32) (b : FVec Ideal S1x256 .f32)
    (m : Fin 1024) (c : Fin 256) :
    layer2V a h b (ix2 m c) = layer (fun n m => a (ix2 n m)) (fun n c => h (ix2 n c)) (fun c => b (ix2 0 c)) m c := by
  pointwise [layer2V, layer, dinvV_apply, loopV_apply]

end Cert.KernelIdeal.Gen

end
-- ==== Proof.ImageNet.lean ====
/-
  What the kernel computes for one image: the two graph convolutions of `Spec.lean`, where every pixel ranks itself
  first.
-/
module

public import proofs.«01_k».proof.Proof.Image
public import Idealize.ShloMosaic.Lib.Pointwise

@[expose] public section

set_option maxRecDepth 16384

noncomputable section

namespace Cert.KernelIdeal.Gen

open Idealize.ShloMosaic Cert.Gcn

/-! ## The whole image -/

/-- The kernel's graph is the graph of the similarities, where every pixel ranks itself first. -/
theorem graphV_apply (x : FVec Ideal S1024x256 .f32) (n m : Fin 1024)
    (hfirst : order (sim (fun n c => x (ix2 n c)) n) 0 = n) :
    graphV x (ix2 n m) = graph (sim fun n c => x (ix2 n c)) n m := by
  have hbig : ∀ m : Fin 1024, ((m.val : ℝ) : EReal) ≤ ((1024 : ℝ) : EReal) := fun m =>
    EReal.coe_le_coe_iff.mpr (by exact_mod_cast m.isLt.le)
  have hs := sim_ne_bot fun n c => x (ix2 n c)
  have h1 : (fun m => maskV x (ix2 n m)) = cut (sim (fun n c => x (ix2 n c)) n) 1 := by
    rw [cut_one _ (by norm_num) n hfirst]
    funext m; exact maskV_apply x n m
  have step : ∀ (v : FVec Ideal S1024x1024 .f32) (r : Nat), r < 1024 →
      (fun m => v (ix2 n m)) = cut (sim (fun n c => x (ix2 n c)) n) r →
      (fun m => roundV v (ix2 n m)) = cut (sim (fun n c => x (ix2 n c)) n) (r + 1) := by
    intro v r hr h
    rw [← blank_cut _ hbig _ (hs n) r hr, ← h]
    funext m; exact roundV_apply v n m
  have h5 := congrFun (step _ 4 (by norm_num) (step _ 3 (by norm_num) (step _ 2 (by norm_num)
    (step _ 1 (by norm_num) h1)))) m
  unfold graphV
  rw [adjV_apply]
  rw [h5]
  unfold graph
  classical
  exact if_congr (graph_of_cut _ hs n m hfirst) rfl rfl

/-- What the kernel computes for one image is the two graph convolutions over the graph of the image's similarities,
    where every pixel ranks itself first. -/
theorem imageV_apply (v : FVec Ideal S1x1024x256 .f32) (W1 : FVec Ideal S256x512 .f32) (b1 : FVec Ideal S1x512 .f32)
    (W2 : FVec Ideal S512x256 .f32) (b2 : FVec Ideal S1x256 .f32) (i : Fin 1) (m : Fin 1024) (c : Fin 256)
    (X : Fin 1024 → Fin 256 → EReal) (hX : ∀ n c, v (ix3 0 n c) = X n c)
    (hfirst : ∀ n, order (sim X n) 0 = n) :
    imageV v W1 b1 W2 b2 (ix3 i m c)
      = net (graph (sim X)) X (fun k c => W1 (ix2 k c)) (fun c => b1 (ix2 0 c)) (fun k c => W2 (ix2 k c))
          (fun c => b2 (ix2 0 c)) m c := by
  have hx : (fun n c => shapeCast S1024x256 v shapeCasts_S1x1024x256_S1024x256 (ix2 n c)) = X := by
    funext n c
    rw [← hX]
    pointwise []
  have hg : (fun n m => graphV (shapeCast S1024x256 v shapeCasts_S1x1024x256_S1024x256) (ix2 n m)) = graph (sim X) := by
    funext n m
    rw [graphV_apply _ n m (by rw [hx]; exact hfirst n), hx]
  unfold imageV net
  pointwise [layer2V_apply, lin2V_apply, layer1V_apply, lin1V_apply, hx, hg, hX]

end Cert.KernelIdeal.Gen

end
-- ==== Proof.Block.lean ====
/-
  What the block function leaves in its output block, at an index: for each of the four images the two graph
  convolutions of `Spec.lean`.
-/
module

public import proofs.«01_k».proof.Proof.Pieces
public import proofs.«01_k».proof.Proof.ImageNet
public import Idealize.ShloMosaic.Lib.Pipeline.ValueKit.Tiles

@[expose] public section

set_option maxRecDepth 16384

noncomputable section

namespace Cert.KernelIdeal.Gen

open Idealize.ShloMosaic Cert.Gcn

/-- One image's store agrees with a function of the block's index that is the two graph convolutions on that image. -/
theorem piece_apply (i : Fin 4) (inb) (x0 : Vec Ideal S4x1024x256 .f32) (W1 : Vec Ideal S256x512 .f32)
    (b1 : Vec Ideal S1x512 .f32) (W2 : Vec Ideal S512x256 .f32) (b2 : Vec Ideal S1x256 .f32)
    (X : Fin 4 → Fin 1024 → Fin 256 → EReal) (hX : ∀ i n c, x0 (ix3 i n c) = X i n c)
    (hfirst : ∀ i n, order (sim (X i) n) 0 = n) (G : S4x1024x256.Idx → EReal)
    (hG : ∀ i m c, G (ix3 i m c) = net (graph (sim (X i))) (X i) (fun k c => W1 (ix2 k c)) (fun c => b1 (ix2 0 c))
      (fun k c => W2 (ix2 k c)) (fun c => b2 (ix2 0 c)) m c)
    (y : S1x1024x256.Idx) :
    imageV (View.ld x0 (Rect.unit (s := S4x1024x256) ![i.val, 0, 0] S1x1024x256.size inb)) W1 b1 W2 b2 y
      = G ((Rect.unit (s := S4x1024x256) ![i.val, 0, 0] S1x1024x256.size inb).idx y) := by
  have hemb : ∀ (n : Fin 1024) (c : Fin 256) (l : Fin 1),
      (Rect.unit (s := S4x1024x256) ![i.val, 0, 0] S1x1024x256.size inb).idx (ix3 l n c) = ix3 i n c := by
    intro n c l
    funext a
    refine Fin.ext ((Rect.idx_unit_val _ _ inb (ix3 l n c) a).trans ?_)
    match a with
    | ⟨0, _⟩ => show i.val + l.val = i.val; omega
    | ⟨1, _⟩ => exact Nat.zero_add _
    | ⟨2, _⟩ => exact Nat.zero_add _
  obtain ⟨l, m, c, rfl⟩ : ∃ l m c, y = ix3 l m c := ⟨y 0, y 1, y 2, eq_ix3 y⟩
  rw [imageV_apply _ W1 b1 W2 b2 l m c (X i) (fun n c => by rw [View.ld_apply, hemb, hX]) (hfirst i), hemb, hG]

/-- What the block function leaves in its output block, from blocks that are read at their indices. -/
theorem out_apply (x0 : Vec Ideal S4x1024x256 .f32) (W1 : Vec Ideal S256x512 .f32)
    (b1 : Vec Ideal S1x512 .f32) (W2 : Vec Ideal S512x256 .f32) (b2 : Vec Ideal S1x256 .f32)
    (X : Fin 4 → Fin 1024 → Fin 256 → EReal) (hX : ∀ i n c, x0 (ix3 i n c) = X i n c)
    (hfirst : ∀ i n, order (sim (X i) n) 0 = n) (i : Fin 4) (m : Fin 1024) (c : Fin 256) :
    out0_5 x0 W1 b1 W2 b2 (ix3 i m c)
      = net (graph (sim (X i))) (X i) (fun k c => W1 (ix2 k c)) (fun c => b1 (ix2 0 c))
        (fun k c => W2 (ix2 k c)) (fun c => b2 (ix2 0 c)) m c := by
  have h2 : (![0, 0] : Fin 2 → Nat) = fun _ => 0 := funext fun a => by fin_cases a <;> rfl
  rw [out_pieces]
  rw [View.ld_unit_zero h2, View.ld_unit_zero h2, View.ld_unit_zero h2, View.ld_unit_zero h2]
  refine View.canon_apply_of_pieces (Val := Elt Ideal) (e := .f32) (fun y : S4x1024x256.Idx =>
    net (graph (sim (X (y 0)))) (X (y 0)) (fun k c => W1 (ix2 k c)) (fun c => b1 (ix2 0 c))
        (fun k c => W2 (ix2 k c)) (fun c => b2 (ix2 0 c)) (y 1) (y 2)) _ ?_ _ (cover0_5 _ _ _ _ _)
  intro p hp y
  have key := fun i inb => piece_apply i inb x0 W1 b1 W2 b2 X hX hfirst (fun y : S4x1024x256.Idx =>
    net (graph (sim (X (y 0)))) (X (y 0)) (fun k c => W1 (ix2 k c)) (fun c => b1 (ix2 0 c))
        (fun k c => W2 (ix2 k c)) (fun c => b2 (ix2 0 c)) (y 1) (y 2)) (fun _ _ _ => rfl)
  simp only [List.mem_cons, List.mem_nil_iff, or_false] at hp
  rcases hp with rfl | rfl | rfl | rfl
  · exact key 3 inb_S4x1024x256_S1x1024x256_3_0_0 y
  · exact key 2 inb_S4x1024x256_S1x1024x256_2_0_0 y
  · exact key 1 inb_S4x1024x256_S1x1024x256_1_0_0 y
  · exact key 0 inb_S4x1024x256_S1x1024x256_0_0_0 y

end Cert.KernelIdeal.Gen

end
-- ==== Proof.Result.lean ====
/-
  The result in terms of the arguments: the feature maps cut into images of pixels, the two graph convolutions on every
  image, and the images put back.
-/
module

public import proofs.«01_k».proof.Proof.Spec

@[expose] public section

noncomputable section

namespace Cert.Gcn

/-- Image `b` of the feature maps: pixel `n` is row `n / 32`, column `n % 32`. -/
def imgs (x : Fin 8 → Fin 256 → Fin 32 → Fin 32 → EReal) (b : Fin 8) (n : Fin 1024) (c : Fin 256) : EReal :=
  x b c ⟨n.val / 32, by omega⟩ ⟨n.val % 32, by omega⟩

/-- The two graph convolutions on image `b`. -/
def outs (x : Fin 8 → Fin 256 → Fin 32 → Fin 32 → EReal) (W1 : Fin 256 → Fin 512 → EReal) (b1 : Fin 512 → EReal)
    (W2 : Fin 512 → Fin 256 → EReal) (b2 : Fin 256 → EReal) (b : Fin 8) : Fin 1024 → Fin 256 → EReal :=
  net (graph (sim (imgs x b))) (imgs x b) W1 b1 W2 b2

/-- Images of pixels put back into channels, rows and columns. -/
def back (o : Fin 8 → Fin 1024 → Fin 256 → EReal) (b : Fin 8) (c : Fin 256) (y x : Fin 32) : EReal :=
  o b ⟨y.val * 32 + x.val, by omega⟩ c

end Cert.Gcn

end
-- ==== Proof.KernelValue.lean ====
/-
  What the kernel's run leaves in its result array: the two graph convolutions of `Spec.lean` on every image.
-/
module

public import proofs.«01_k».proof.Proof.Block
public import proofs.«01_k».proof.Proof.Result
public import Idealize.ShloMosaic.Lib.Pipeline.ValueKit.Basic

@[expose] public section

set_option maxRecDepth 16384

noncomputable section

namespace Cert.KernelIdeal.Gen

open Idealize.ShloMosaic Idealize.ShloMosaic.TcCoe Idealize.SL.Sem Cert.Gcn
open Idealize.ShloMosaic.Pipeline (Dat)

variable (m : (ℓ : Loc nD τ sig) → Buf (Elt Ideal) ℓ) (ρ : Dev nD → PrngReg)

/-- A rank-four array by its four coordinates. -/
abbrev feat (x : S8x256x32x32.Idx → EReal) : Fin 8 → Fin 256 → Fin 32 → Fin 32 → EReal := fun b c h w => x (ix4 b c h w)

/-- The two graph convolutions on image `b` of the launch's arguments. -/
abbrev outK (c : Dev nD) (b : Fin 8) : Fin 1024 → Fin 256 → EReal :=
  outs (feat (m ((c.tc : Thread nD τ).loc main_arg0)))
    (fun k l => (m ((c.tc : Thread nD τ).loc main_arg1) : S256x512.Idx → EReal) (ix2 k l))
    (fun l => (m ((c.tc : Thread nD τ).loc main_arg2) : S512.Idx → EReal) (ix1 l))
    (fun k l => (m ((c.tc : Thread nD τ).loc main_arg3) : S512x256.Idx → EReal) (ix2 k l))
    (fun l => (m ((c.tc : Thread nD τ).loc main_arg4) : S256.Idx → EReal) (ix1 l)) b

/-! ## The operands the block function finds -/

/-- The feature maps as the region finds them. -/
theorem V_main_v1 (c : Dev nD) (b : Fin 8) (n : Fin 1024) (k : Fin 256) :
    (V m c main_v1 : S8x1024x256.Idx → EReal) (ix3 b n k) = imgs (feat (m ((c.tc : Thread nD τ).loc main_arg0))) b n k := by
  have h : (V m c main_v1 : S8x1024x256.Idx → EReal)
      = shapeCast S8x1024x256 (transpose S8x32x32x256 [0, 2, 3, 1]
          (m ((c.tc : Thread nD τ).loc main_arg0) : S8x256x32x32.Idx → EReal) transposes_S8x256x32x32_S8x32x32x256_0_2_3_1)
          shapeCasts_S8x32x32x256_S8x1024x256 := by
    change StableHlo.after hostOps0 (fun b => m (c, b)) (Proc.devRef .tc main_v1) = _
    unfold hostOps0
    after_results
    rfl
  rw [h]
  unfold imgs feat
  pointwise []

/-- The first bias as the region finds it. -/
theorem V_main_v2 (c : Dev nD) (l : Fin 1) (k : Fin 512) :
    (V m c main_v2 : S1x512.Idx → EReal) (ix2 l k) = (m ((c.tc : Thread nD τ).loc main_arg2) : S512.Idx → EReal) (ix1 k) := by
  have h : (V m c main_v2 : S1x512.Idx → EReal)
      = shapeCast S1x512 (m ((c.tc : Thread nD τ).loc main_arg2) : S512.Idx → EReal) shapeCasts_S512_S1x512 := by
    change StableHlo.after hostOps0 (fun b => m (c, b)) (Proc.devRef .tc main_v2) = _
    unfold hostOps0
    after_results
    rfl
  rw [h]
  pointwise []

/-- The second bias as the region finds it. -/
theorem V_main_v3 (c : Dev nD) (l : Fin 1) (k : Fin 256) :
    (V m c main_v3 : S1x256.Idx → EReal) (ix2 l k) = (m ((c.tc : Thread nD τ).loc main_arg4) : S256.Idx → EReal) (ix1 k) := by
  have h : (V m c main_v3 : S1x256.Idx → EReal)
      = shapeCast S1x256 (m ((c.tc : Thread nD τ).loc main_arg4) : S256.Idx → EReal) shapeCasts_S256_S1x256 := by
    change StableHlo.after hostOps0 (fun b => m (c, b)) (Proc.devRef .tc main_v3) = _
    unfold hostOps0
    after_results
    rfl
  rw [h]
  pointwise []

/-! ## The blocks -/

/-- The two points' blocks of the feature maps and of the result start at image `4 t`. -/
theorem index0_0 : ∀ t : Fin grid0.N, ∀ a, win0_0.index t a * win0_0.size a = ![4 * t.val, 0, 0] a := by decide +kernel
/-- The output block of a grid point begins at its four images. -/
theorem index0_5 : ∀ t : Fin grid0.N, ∀ a, win0_5.index t a * win0_5.size a = ![4 * t.val, 0, 0] a := by decide +kernel
/-- The output block of a grid point holds four images. -/
theorem xsize0_5 : ∀ t : Fin grid0.N, ∀ a, win0_5.xsize (grid0.coords t) a = ![4, 1024, 256] a := by decide +kernel

/-- Image `i` of point `t`'s block is image `4 t + i`. -/
def img (t : Fin grid0.N) (i : Fin 4) : Fin 8 := ⟨4 * t.val + i.val, by
  have : t.val < 2 := t.isLt
  omega⟩

/-- The feature maps' block at a point, at an index. -/
theorem iblk0_apply (c : Dev nD) (t : Fin cfg0.N) (i : Fin 4) (n : Fin 1024) (k : Fin 256) :
    (iblk m c 0 t : S4x1024x256.Idx → EReal) (ix3 i n k)
      = imgs (feat (m ((c.tc : Thread nD τ).loc main_arg0))) (img t i) n k := by
  rw [← V_main_v1]
  refine congrArg (V m c main_v1 : S8x1024x256.Idx → EReal) (funext fun a => Fin.ext ?_)
  have h := index0_0 t a
  refine (Pipeline.Window.rect_emb_val win0_0 t (ix3 i n k) a).trans ?_
  rw [h]
  match a with
  | ⟨0, _⟩ => rfl
  | ⟨1, _⟩ => exact Nat.zero_add _
  | ⟨2, _⟩ => exact Nat.zero_add _

/-- The weights and the biases are staged whole. -/
theorem iblk1_eq (c : Dev nD) (t : Fin cfg0.N) : (iblk m c 1 t : S256x512.Idx → EReal) = V m c main_arg1 := by
  funext y
  refine congrArg (V m c main_arg1 : S256x512.Idx → EReal) (funext fun a => Fin.ext ?_)
  refine (Pipeline.Window.rect_emb_val win0_1 t y a).trans ?_
  rw [(by decide +kernel : ∀ t : Fin grid0.N, ∀ a, win0_1.index t a * win0_1.size a = 0) t a, Nat.zero_add]
/-- The block of the first bias is the whole of it. -/
theorem iblk2_eq (c : Dev nD) (t : Fin cfg0.N) : (iblk m c 2 t : S1x512.Idx → EReal) = V m c main_v2 := by
  funext y
  refine congrArg (V m c main_v2 : S1x512.Idx → EReal) (funext fun a => Fin.ext ?_)
  refine (Pipeline.Window.rect_emb_val win0_2 t y a).trans ?_
  rw [(by decide +kernel : ∀ t : Fin grid0.N, ∀ a, win0_2.index t a * win0_2.size a = 0) t a, Nat.zero_add]
/-- The block of the second matrix is the whole of it. -/
theorem iblk3_eq (c : Dev nD) (t : Fin cfg0.N) : (iblk m c 3 t : S512x256.Idx → EReal) = V m c main_arg3 := by
  funext y
  refine congrArg (V m c main_arg3 : S512x256.Idx → EReal) (funext fun a => Fin.ext ?_)
  refine (Pipeline.Window.rect_emb_val win0_3 t y a).trans ?_
  rw [(by decide +kernel : ∀ t : Fin grid0.N, ∀ a, win0_3.index t a * win0_3.size a = 0) t a, Nat.zero_add]
/-- The block of the second bias is the whole of it. -/
theorem iblk4_eq (c : Dev nD) (t : Fin cfg0.N) : (iblk m c 4 t : S1x256.Idx → EReal) = V m c main_v3 := by
  funext y
  refine congrArg (V m c main_v3 : S1x256.Idx → EReal) (funext fun a => Fin.ext ?_)
  refine (Pipeline.Window.rect_emb_val win0_4 t y a).trans ?_
  rw [(by decide +kernel : ∀ t : Fin grid0.N, ∀ a, win0_4.index t a * win0_4.size a = 0) t a, Nat.zero_add]

/-! ## The result array -/

/-- What the region's result array is shown to hold. -/
def arr (c : Dev nD) : S8x1024x256.Idx → EReal := fun j => outK m c (j 0) (j 1) (j 2)

/-- Every pixel of every image ranks itself first. -/
abbrev SelfFirst (c : Dev nD) : Prop :=
  ∀ b n, order (sim (imgs (feat (m ((c.tc : Thread nD τ).loc main_arg0))) b) n) 0 = n

/-- What the block function leaves at point `t`, at an index. -/
theorem out_at (c : Dev nD) (hfirst : SelfFirst m c) (t : Fin cfg0.N) (i : Fin 4) (n : Fin 1024) (k : Fin 256) :
    out0_5 (F := Ideal) (iblk m c 0 t) (iblk m c 1 t) (iblk m c 2 t) (iblk m c 3 t) (iblk m c 4 t) (ix3 i n k)
      = outK m c (img t i) n k := by
  refine (out_apply _ _ _ _ _ (fun i => imgs (feat (m ((c.tc : Thread nD τ).loc main_arg0))) (img t i))
    (fun i n k => iblk0_apply m c t i n k) (fun i => hfirst (img t i)) i n k).trans ?_
  rw [iblk1_eq, iblk2_eq, iblk3_eq, iblk4_eq, V_main_arg1, V_main_arg3]
  exact congrArg₂ (fun b1 b2 => outs (feat (m ((c.tc : Thread nD τ).loc main_arg0)))
    (fun k l => (m ((c.tc : Thread nD τ).loc main_arg1) : S256x512.Idx → EReal) (ix2 k l)) b1
    (fun k l => (m ((c.tc : Thread nD τ).loc main_arg3) : S512x256.Idx → EReal) (ix2 k l)) b2 (img t i) n k)
    (funext (V_main_v2 m c 0)) (funext (V_main_v3 m c 0))

/-- What point `t` writes back is block `t` of that array. -/
theorem flushed_eq (c : Dev nD) (hfirst : SelfFirst m c) (t : Fin cfg0.N) :
    (dats m 0 c).flushed 5 t = ((cfg0.win 5).blk t).view.read (Elt Ideal) (arr m c) := by
  show (cfg0.win 5).cut (grid0.coords t) ((dats m 0 c).after 5 t) = _
  rw [after0_5]
  refine funext fun (y : S4x1024x256.Idx) => ?_
  obtain ⟨i, n, k, rfl⟩ : ∃ i n k, y = ix3 i n k := ⟨y 0, y 1, y 2, eq_ix3 y⟩
  have hidx : (win0_5.rect t).emb (ix3 i n k) = ix3 (img t i) n k := by
    funext a
    refine Fin.ext ((Pipeline.Window.rect_emb_val win0_5 t (ix3 i n k) a).trans ?_)
    rw [index0_5 t a]
    match a with
    | ⟨0, _⟩ => rfl
    | ⟨1, _⟩ => exact Nat.zero_add _
    | ⟨2, _⟩ => exact Nat.zero_add _
  exact (out_at m c hfirst t i n k).trans (congrArg (arr m c) hidx).symm

/-- The blocks tile the array. -/
theorem cover (i : S8x1024x256.Idx) :
    ∃ t : Fin cfg0.N, (cfg0.win 5).flush t = true ∧ i ∈ ((cfg0.win 5).blk t).view.set := by
  have h0 : (i 0).val < 8 := (i 0).isLt
  have h1 : (i 1).val < 1024 := (i 1).isLt
  have h2 : (i 2).val < 256 := (i 2).isLt
  obtain ⟨t, ht⟩ : ∃ t : Fin cfg0.N, t.val = (i 0).val / 4 := ⟨⟨(i 0).val / 4, by show _ < 2; omega⟩, rfl⟩
  refine ⟨t, flush0_5 _, ?_⟩
  show i ∈ ((View.whole main_v4).slice (win0_5.rect t)).set
  rw [View.set_slice_whole]
  refine (Pipeline.Window.mem_rect_iff win0_5 t i).mpr fun a => ?_
  rw [index0_5, xsize0_5]
  match a with
  | ⟨0, _⟩ => show 4 * t.val ≤ (i 0).val ∧ (i 0).val < 4 * t.val + 4; omega
  | ⟨1, _⟩ => show 0 ≤ (i 1).val ∧ (i 1).val < 0 + 1024; omega
  | ⟨2, _⟩ => show 0 ≤ (i 2).val ∧ (i 2).val < 0 + 256; omega

/-- So the region's result array ends at the two graph convolutions on every image. -/
theorem final (c : Dev nD) (hfirst : SelfFirst m c) : (dats m 0 c).arrAt 5 cfg0.N = arr m c :=
  (dats m 0 c).arrAt_eq_of_cover 5 (arr m c) (fun t _ => flushed_eq m c hfirst t) cover

/-- The kernel's result is that array back in channels, rows and columns. -/
theorem main_v6_eq (c : Dev nD) (hfirst : SelfFirst m c) :
    (Pipeline.afterTail₀ cfgs (dats m) 0 (V0 m) [hostOps1] c main_v6 : S8x256x32x32.Idx → EReal)
      = fun j => back (outK m c) (j 0) (j 1) (j 2) (j 3) := by
  have h : (Pipeline.afterTail₀ cfgs (dats m) 0 (V0 m) [hostOps1] c main_v6 : S8x256x32x32.Idx → EReal)
      = transpose S8x256x32x32 [0, 3, 1, 2] (shapeCast S8x32x32x256 (arr m c) shapeCasts_S8x1024x256_S8x32x32x256)
          transposes_S8x32x32x256_S8x256x32x32_0_3_1_2 := by
    rw [← final m c hfirst]
    have e := Pipeline.withArrays_arr spec0 launch0.win.arr_inj c (V0 m c) (fun w => (dats m 0 c).arrAt w cfg0.N) 5
    rw [← e]
    change StableHlo.after hostOps1 _ (Proc.devRef .tc main_v6) = _
    unfold hostOps1
    after_results
    rfl
  rw [h]
  funext j
  obtain ⟨b, k, y, x, rfl⟩ : ∃ b k y x, j = ix4 b k y x := ⟨j 0, j 1, j 2, j 3, eq_ix4 j⟩
  pointwise [arr, back]

/-- The run: the result, and the arguments unchanged. -/
theorem run_value (hfirst : ∀ c, SelfFirst m c) :
    θ_run defs (onTc (τ := τ) (main (F := Ideal))) ⟨m, fun _ => 0, ρ⟩ (fun r => ∀ c : Dev nD,
      (r.2.mem ((c.tc : Thread nD τ).loc main_v6) : S8x256x32x32.Idx → EReal)
        = (fun j => back (outK m c) (j 0) (j 1) (j 2) (j 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m ρ) (unchanged m ρ))
  exact ((h.1 c).2 main_v6 (Pipeline.mem_restRefs_of main_v6 (by decide) (by decide))).trans (main_v6_eq m c (hfirst c))

end Cert.KernelIdeal.Gen

end
-- ==== Proof.Edges.lean ====
/-
  The edge list of the whole batch, and the sums over it.

  The batch has 8192 nodes, pixel `m` of image `b` being node `b * 1024 + m`, and 49152 edges: from each node an edge to
  each of its four neighbours, then a loop at each node, then a second loop at each node. `src` and `dst` are the ends
  of an edge. A sum over the edges into a node falls into the sum over the neighbours and the two loops, and only the
  edges of the node's own image reach it: so the degree and the convolution over the list are those of the image's graph.
-/
module

public import proofs.«01_k».proof.Proof.Result

@[expose] public section

noncomputable section

namespace Cert.Gcn

open Idealize.ShloMosaic

/-- Pixel `m` of image `b` as a node. -/
def node (b : Fin 8) (m : Fin 1024) : Fin 8192 := ⟨b.val * 1024 + m.val, by omega⟩

/-- Edge `k` of pixel `n` of image `b`. -/
def edge (b : Fin 8) (n : Fin 1024) (k : Fin 4) : Fin 49152 := ⟨(b.val * 1024 + n.val) * 4 + k.val, by omega⟩

/-- The first loop at node `i`. -/
def loop (i : Fin 8192) : Fin 49152 := ⟨32768 + i.val, by omega⟩

/-- The second loop at node `i`. -/
def loop' (i : Fin 8192) : Fin 49152 := ⟨40960 + i.val, by omega⟩

/-- Where an edge comes from. -/
def src (e : Fin 49152) : Fin 8192 :=
  if h : e.val < 32768 then ⟨e.val / 4, by omega⟩
  else if h' : e.val < 40960 then ⟨e.val - 32768, by omega⟩
  else ⟨e.val - 40960, by omega⟩

/-- Where an edge goes, for the images' similarities `s`. -/
def dst (s : Fin 8 → Fin 1024 → Fin 1024 → EReal) (e : Fin 49152) : Fin 8192 :=
  if h : e.val < 32768 then
    node ⟨e.val / 4096, by omega⟩ (order (s ⟨e.val / 4096, by omega⟩ ⟨e.val / 4 % 1024, by omega⟩) ⟨e.val % 4 + 1, by omega⟩)
  else if h' : e.val < 40960 then ⟨e.val - 32768, by omega⟩
  else ⟨e.val - 40960, by omega⟩

/-- Every node is a pixel of an image. -/
theorem exists_node (i : Fin 8192) : ∃ b m, i = node b m :=
  ⟨⟨i.val / 1024, by omega⟩, ⟨i.val % 1024, by omega⟩, Fin.ext (by show i.val = i.val / 1024 * 1024 + i.val % 1024; omega)⟩

/-- Nodes are equal exactly when the images and the pixels are. -/
theorem node_inj {b b' : Fin 8} {m m' : Fin 1024} : node b m = node b' m' ↔ b = b' ∧ m = m' := by
  unfold node
  rw [Fin.mk.injEq, Fin.ext_iff, Fin.ext_iff]
  omega

/-- The edge of a pixel comes from the pixel. -/
theorem src_edge (b : Fin 8) (n : Fin 1024) (k : Fin 4) : src (edge b n k) = node b n := by
  unfold src edge node
  rw [dif_pos (by show (b.val * 1024 + n.val) * 4 + k.val < 32768; omega)]
  exact Fin.ext (by show ((b.val * 1024 + n.val) * 4 + k.val) / 4 = b.val * 1024 + n.val; omega)

/-- A first loop comes from its node. -/
theorem src_loop (i : Fin 8192) : src (loop i) = i := by
  unfold src loop
  rw [dif_neg (by show ¬ 32768 + i.val < 32768; omega), dif_pos (by show 32768 + i.val < 40960; omega)]
  exact Fin.ext (by show 32768 + i.val - 32768 = i.val; omega)

/-- A second loop comes from its node. -/
theorem src_loop' (i : Fin 8192) : src (loop' i) = i := by
  unfold src loop'
  rw [dif_neg (by show ¬ 40960 + i.val < 32768; omega), dif_neg (by show ¬ 40960 + i.val < 40960; omega)]
  exact Fin.ext (by show 40960 + i.val - 40960 = i.val; omega)

section

variable (s : Fin 8 → Fin 1024 → Fin 1024 → EReal)

/-- The edge of a pixel goes to the neighbour at its place of the ranking. -/
theorem dst_edge (b : Fin 8) (n : Fin 1024) (k : Fin 4) :
    dst s (edge b n k) = node b (order (s b n) ⟨k.val + 1, by omega⟩) := by
  have hb : (⟨(edge b n k).val / 4096, by show ((b.val * 1024 + n.val) * 4 + k.val) / 4096 < 8; omega⟩ : Fin 8) = b :=
    Fin.ext (by show ((b.val * 1024 + n.val) * 4 + k.val) / 4096 = b.val; omega)
  have hn : (⟨(edge b n k).val / 4 % 1024, by omega⟩ : Fin 1024) = n :=
    Fin.ext (by show ((b.val * 1024 + n.val) * 4 + k.val) / 4 % 1024 = n.val; omega)
  have hk : (⟨(edge b n k).val % 4 + 1, by omega⟩ : Fin 1024) = ⟨k.val + 1, by omega⟩ :=
    Fin.ext (by show ((b.val * 1024 + n.val) * 4 + k.val) % 4 + 1 = k.val + 1; omega)
  unfold dst
  rw [dif_pos (by show (b.val * 1024 + n.val) * 4 + k.val < 32768; omega), hb, hn, hk]

/-- A first loop goes to its node. -/
theorem dst_loop (i : Fin 8192) : dst s (loop i) = i := by
  unfold dst loop
  rw [dif_neg (by show ¬ 32768 + i.val < 32768; omega), dif_pos (by show 32768 + i.val < 40960; omega)]
  exact Fin.ext (by show 32768 + i.val - 32768 = i.val; omega)

/-- A second loop goes to its node. -/
theorem dst_loop' (i : Fin 8192) : dst s (loop' i) = i := by
  unfold dst loop'
  rw [dif_neg (by show ¬ 40960 + i.val < 32768; omega), dif_neg (by show ¬ 40960 + i.val < 40960; omega)]
  exact Fin.ext (by show 40960 + i.val - 40960 = i.val; omega)

end

/-- An index below `p * q` is a pair. -/
theorem sum_pairs {p q r : Nat} (h : r = p * q) (f : Fin r → EReal) :
    ∑ i, f i = ∑ a : Fin p, ∑ b : Fin q, f ⟨a.val * q + b.val, by
      subst h; calc a.val * q + b.val < a.val * q + q := by omega
        _ = (a.val + 1) * q := by ring
        _ ≤ p * q := Nat.mul_le_mul_right _ (by omega)⟩ := by
  subst h
  rw [← Fintype.sum_prod_type', ← finProdFinEquiv.sum_comp]
  refine Finset.sum_congr rfl fun x _ => congrArg f (Fin.ext ?_)
  show x.2.val + q * x.1.val = x.1.val * q + x.2.val
  ring

/-- An index below `p + q` is below `p` or beyond. -/
theorem sum_parts {p q r : Nat} (h : r = p + q) (f : Fin r → EReal) :
    ∑ i, f i = (∑ a : Fin p, f ⟨a.val, by omega⟩) + ∑ b : Fin q, f ⟨p + b.val, by omega⟩ := by
  subst h
  exact Fin.sum_univ_add f

/-- A sum over the edges: the edges to neighbours and the two families of loops. -/
theorem sum_edges (f : Fin 49152 → EReal) :
    ∑ e, f e = (∑ b, ∑ n, ∑ k, f (edge b n k)) + (∑ i, f (loop i)) + ∑ i, f (loop' i) := by
  rw [sum_parts (p := 40960) (q := 8192) rfl, sum_parts (p := 32768) (q := 8192) rfl,
    sum_pairs (p := 8192) (q := 4) (r := 32768) rfl, sum_pairs (p := 8) (q := 1024) (r := 8192) rfl]
  rfl

/-- The edges into pixel `m` of image `b`, each with a weight `f`: those of the image's own pixels, and the loops. -/
theorem sum_into (s : Fin 8 → Fin 1024 → Fin 1024 → EReal) (b : Fin 8) (m : Fin 1024) (f : Fin 8192 → EReal) :
    (∑ e, if dst s e = node b m then f (src e) else 0)
      = (∑ n, ∑ k : Fin 4, if order (s b n) ⟨k.val + 1, by omega⟩ = m then f (node b n) else 0)
        + f (node b m) + f (node b m) := by
  rw [sum_edges]
  refine congrArg₂ (· + ·) (congrArg₂ (· + ·) ?_ ?_) ?_
  · rw [Finset.sum_eq_single b (fun b' _ hb => Finset.sum_eq_zero fun n _ => Finset.sum_eq_zero fun k _ => by
      rw [dst_edge, if_neg (fun h => hb (node_inj.mp h).1)]) (fun h => absurd (Finset.mem_univ b) h)]
    refine Finset.sum_congr rfl fun n _ => Finset.sum_congr rfl fun k _ => ?_
    rw [dst_edge, src_edge]
    exact if_congr (node_inj.trans ⟨fun h => h.2, fun h => ⟨rfl, h⟩⟩) rfl rfl
  · rw [Finset.sum_eq_single (node b m) (fun i _ hi => by rw [dst_loop, if_neg hi])
      (fun h => absurd (Finset.mem_univ _) h), dst_loop, if_pos rfl, src_loop]
  · rw [Finset.sum_eq_single (node b m) (fun i _ hi => by rw [dst_loop', if_neg hi])
      (fun h => absurd (Finset.mem_univ _) h), dst_loop', if_pos rfl, src_loop']

/-- The number of edges into a pixel is its degree. -/
theorem list_deg (s : Fin 8 → Fin 1024 → Fin 1024 → EReal) (b : Fin 8) (m : Fin 1024) :
    (∑ e, if dst s e = node b m then (1 : EReal) else 0) = deg (graph (s b)) m :=
  (sum_into s b m fun _ => 1).trans (deg_edges (s b) m)

/-- The convolution over the edge list, with the weights `D` of the nodes, is the layer of the image. -/
theorem list_layer {q : Nat} (s : Fin 8 → Fin 1024 → Fin 1024 → EReal) (D : Fin 8192 → EReal)
    (hD : ∀ b m, D (node b m) = dinv (graph (s b)) m) (H : Fin 8192 → Fin q → EReal) (bias : Fin q → EReal)
    (b : Fin 8) (m : Fin 1024) (c : Fin q) :
    max ((∑ e, if dst s e = node b m then D (src e) * D (dst s e) * H (src e) c else 0) + bias c) 0
      = layer (graph (s b)) (fun n => H (node b n)) bias m c := by
  rw [Finset.sum_congr rfl fun e _ => ite_congr rfl (fun h => by rw [h]) (fun _ => rfl)]
  rw [sum_into s b m fun i => D i * D (node b m) * H i c]
  simp only [hD]
  exact layer_edges (s b) (fun n => H (node b n)) bias m c

end Cert.Gcn

end
-- ==== Proof.TopK.lean ====
/-
  The indices of a row's greatest entries are the row's ranking.
-/
module

public import proofs.«01_k».proof.Proof.Ranking
public import Idealize.ShloMosaic.Lib.Pointwise

@[expose] public section

noncomputable section

namespace Cert.Gcn

open Idealize.ShloMosaic

/-- Moving along the last of three axes. -/
theorem along_two {p q r : Nat} (b : Fin p) (n : Fin q) (m k : Fin r) :
    Shape.Idx.along (s := ⟨3, ![p, q, r]⟩) (ix3 b n m) (2 : Fin 3) k = ix3 b n k := by
  funext a
  match a with
  | ⟨0, _⟩ => rfl
  | ⟨1, _⟩ => rfl
  | ⟨2, _⟩ => rfl

/-- The comparison of the sort, as the ranking's. -/
theorem gt_eq_greater (x y : EReal) : (Ideal.cmpTotal .gt x y == 1#1) = decide (y < x) := by
  show (BitVec.ofBool (decide (y < x)) == 1#1) = decide (y < x)
  cases decide (y < x) <;> rfl

/-- A descending sort of rows that carries the column numbers: they come out as the ranking. -/
theorem sort_apply {B N : Nat} (x : FVec Ideal ⟨3, ![B, N, N]⟩ .f32) (idx : IVec ⟨3, ![B, N, N]⟩ 32)
    (hidx : ∀ b n m, idx (ix3 b n m) = BitVec.ofNat 32 m.val) (b : Fin B) (n k : Fin N) :
    (Host.sort2 ⟨3, ![B, N, N]⟩ 2 (fun l r => FloatOps.cmpfTotal (F := Ideal) (φ := .f32) .gt l.1 r.1) x idx).2
      (ix3 b n k) = BitVec.ofNat 32 (order (fun m => x (ix3 b n m)) k).val := by
  unfold Host.sort2
  rw [dif_pos (show 2 < 3 by decide)]
  show idx (Shape.Idx.along (s := ⟨3, ![B, N, N]⟩) (ix3 b n k) (2 : Fin 3) (sortedFrom (fun l r : Fin N =>
    Ideal.cmpTotal .gt (x (Shape.Idx.along (s := ⟨3, ![B, N, N]⟩) (ix3 b n k) (2 : Fin 3) l))
      (x (Shape.Idx.along (s := ⟨3, ![B, N, N]⟩) (ix3 b n k) (2 : Fin 3) r)) == 1#1) k)) = _
  refine (congrArg idx (along_two b n k _)).trans ((hidx b n _).trans ?_)
  refine congrArg (fun v : Fin N => BitVec.ofNat 32 v.val) ?_
  unfold order
  refine congrFun (sortedFrom_congr _ _ fun l r _ => ?_) k
  exact (congrArg₂ (fun i j => Ideal.cmpTotal .gt (x i) (x j) == 1#1) (along_two b n k l) (along_two b n k r)).trans
    (gt_eq_greater _ _)

/-- Index `k` of the `K` greatest entries of a row is the word of the column the ranking has at `k`. -/
theorem topK_apply {B N K : Nat} (x : FVec Ideal ⟨3, ![B, N, N]⟩ .f32)
    (h : (⟨3, ![B, N, N]⟩ : Shape).Slices (fun _ => 0) ⟨3, ![B, N, K]⟩) (hK : K ≤ N)
    (b : Fin B) (n : Fin N) (k : Fin K) :
    (Host.topK ⟨3, ![B, N, K]⟩ 2 (FloatOps.cmpfTotal .gt) x h).2 (ix3 b n k)
      = BitVec.ofNat 32 (order (fun m => x (ix3 b n m)) ⟨k.val, by omega⟩).val := by
  have hj : (fun a : Fin 3 => (⟨((fun _ => 0 : Fin 3 → Nat) a) + ((ix3 b n k : (⟨3, ![B, N, K]⟩ : Shape).Idx) a).val, by
      match a with
      | ⟨0, _⟩ => show 0 + b.val < B; omega
      | ⟨1, _⟩ => show 0 + n.val < N; omega
      | ⟨2, _⟩ => show 0 + k.val < N; omega⟩ : Fin ((⟨3, ![B, N, N]⟩ : Shape).size a)))
      = (ix3 b n ⟨k.val, by omega⟩ : (⟨3, ![B, N, N]⟩ : Shape).Idx) := by
    funext a
    match a with
    | ⟨0, _⟩ => exact Fin.ext (Nat.zero_add _)
    | ⟨1, _⟩ => exact Fin.ext (Nat.zero_add _)
    | ⟨2, _⟩ => exact Fin.ext (Nat.zero_add _)
  refine Eq.trans (congrArg (Host.sort2 ⟨3, ![B, N, N]⟩ 2
    (fun l r => FloatOps.cmpfTotal (F := Ideal) (φ := .f32) .gt l.1 r.1) x
    (fun i => if hd : 2 < 3 then iotaInDim ⟨3, ![B, N, N]⟩ 32 ⟨2, hd⟩ i else 0#32)).2 hj) ?_
  exact sort_apply x _ (fun _ _ _ => rfl) b n _

end Cert.Gcn

end
-- ==== Proof.Indices.lean ====
/-
  Gathers and accumulating scatters read at an index, for one index per row.

  The index array is `[E, 1]`: entry `e` names a row of an array `[N]` or `[N, C]`. The gather puts row `idx e` at place
  `e`; the scatter adds what stands at place `e` to row `idx e`. The four lemmas say so for an index array whose words
  are the numbers `r e < N`.
-/
module

public import Idealize.ShloMosaic.Lib.Pointwise
public import Idealize.ShloMosaic.Lib.IdealHost

@[expose] public section

noncomputable section

namespace Cert.Gcn

open Idealize.ShloMosaic

variable {α : Type} {N E C : Nat}

/-! ## The dimension numbers -/

/-- A gather of single entries. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gather of whole rows. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A scatter of single entries. -/
abbrev entryScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A scatter of whole rows. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## Words and numbers -/

/-- A word of a number below 2^31 is that number. -/
theorem toInt_ofNat {k : Nat} (hk : k < 2147483648) : (BitVec.ofNat 32 k).toInt = (k : ℤ) := by
  rw [BitVec.toInt_eq_toNat_of_lt (by rw [BitVec.toNat_ofNat]; omega), BitVec.toNat_ofNat, Nat.mod_eq_of_lt (by omega)]

/-! ## The gathers -/

/-- Entry `e` of a gather of single entries is the entry the index names. -/
theorem entryGather_apply (wf) (x : (⟨1, ![N]⟩ : Shape).Idx → α) (idx : IVec ⟨2, ![E, 1]⟩ 32) (e : Fin E) (r : Fin N)
    (hN : N < 2147483648) (hr : idx (ix2 e 0) = BitVec.ofNat 32 r.val) :
    Host.gather (entryGather N E wf) x idx (ix1 e) = x (ix1 r) := by
  unfold Host.gather
  refine congrArg x (funext fun a => ?_)
  obtain rfl : a = 0 := Subsingleton.elim _ _
  refine Fin.ext ?_
  show (entryGather N E wf).start (ix1 e) idx 0 + (entryGather N E wf).batchCoord (ix1 e) 0
    + (entryGather N E wf).offCoord (ix1 e) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi, hr, toInt_ofNat (by omega)]
  show min r.val (N - 1) = r.val
  omega

/-- Row `e` of a gather of rows is the row the index names. -/
theorem rowGather_apply (wf) (x : (⟨2, ![N, C]⟩ : Shape).Idx → α) (idx : IVec ⟨2, ![E, 1]⟩ 32) (e : Fin E) (c : Fin C)
    (r : Fin N) (hN : N < 2147483648) (hr : idx (ix2 e 0) = BitVec.ofNat 32 r.val) :
    Host.gather (rowGather N E C wf) x idx (ix2 e c) = x (ix2 r c) := by
  unfold Host.gather
  refine congrArg x (funext fun a => ?_)
  refine Fin.ext ?_
  show (rowGather N E C wf).start (ix2 e c) idx a + (rowGather N E C wf).batchCoord (ix2 e c) a
    + (rowGather N E C wf).offCoord (ix2 e c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, hr, toInt_ofNat (by omega)]
    show min r.val (N - 1) = r.val
    omega
  · unfold GatherDims.start
    rw [dif_neg (show ¬ (1 : Fin 2) ∈ (rowGather N E C wf).startIndexMap from
      fun h => by simp at h)]
    unfold GatherDims.offCoord
    rw [dif_pos ((GatherDims.mem_sKept _ _).mpr ⟨fun h => by simp at h, List.not_mem_nil⟩)]
    simp only [Nat.zero_add]
    rfl

/-! ## The scatters -/

/-- Entry `e` of a scatter of single entries lands on entry `i` exactly when the index names `i`. -/
theorem entryScatter_lands (wf) (idx : IVec ⟨2, ![E, 1]⟩ 32) (e : Fin E) (r i : Fin N)
    (hN : N < 2147483648) (hr : idx (ix2 e 0) = BitVec.ofNat 32 r.val) :
    (entryScatter N E wf).resultIdx? (ix1 e) idx = some (ix1 i) ↔ r = i := by
  have hs : ∀ a, (entryScatter N E wf).start (ix1 e) idx a + (entryScatter N E wf).window (ix1 e) a = (r.val : ℤ) := by
    intro a
    obtain rfl : a = 0 := Subsingleton.elim _ _
    unfold ScatterDims.start ScatterDims.window
    rw [dif_pos (show (0 : Fin 1) ∈ (entryScatter N E wf).scatterDimsToOperandDims from List.mem_singleton.mpr rfl)]
    have hsi : (entryScatter N E wf).siIdx (ix1 e)
        ⟨List.idxOf (0 : Fin 1) (entryScatter N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi, hr, toInt_ofNat (by omega), dif_neg (fun h => by simp [ScatterDims.sKept, Shape.kept] at h)]
    simp
  unfold ScatterDims.resultIdx?
  rw [dif_pos (fun a => by
    rw [hs a]
    obtain rfl : a = 0 := Subsingleton.elim _ _
    exact ⟨by omega, by have := r.isLt; show (r.val : ℤ) < (N : ℤ); omega⟩)]
  rw [Option.some_inj]
  constructor
  · intro h
    have := congrArg Fin.val (congrFun h 0)
    simp only [hs] at this
    exact Fin.ext this
  · rintro rfl
    refine funext fun a => Fin.ext ?_
    obtain rfl : a = 0 := Subsingleton.elim _ _
    simp only [hs]
    rfl

/-- Place `(e, c')` of a scatter of rows lands on place `(i, c)` exactly when the index names row `i` and the columns
    are the same. -/
theorem rowScatter_lands (wf) (idx : IVec ⟨2, ![E, 1]⟩ 32) (e : Fin E) (c' : Fin C) (r i : Fin N) (c : Fin C)
    (hN : N < 2147483648) (hr : idx (ix2 e 0) = BitVec.ofNat 32 r.val) :
    (rowScatter N E C wf).resultIdx? (ix2 e c') idx = some (ix2 i c) ↔ r = i ∧ c' = c := by
  have hs0 : (rowScatter N E C wf).start (ix2 e c') idx 0 + (rowScatter N E C wf).window (ix2 e c') 0 = (r.val : ℤ) := by
    unfold ScatterDims.start ScatterDims.window
    rw [dif_pos (show (0 : Fin 2) ∈ (rowScatter N E C wf).scatterDimsToOperandDims from List.mem_singleton.mpr rfl)]
    have hsi : (rowScatter N E C wf).siIdx (ix2 e c')
        ⟨List.idxOf (0 : Fin 2) (rowScatter N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi, hr, toInt_ofNat (by omega), dif_neg (fun h => by simp [ScatterDims.sKept, Shape.kept] at h)]
    simp
  have hs1 : (rowScatter N E C wf).start (ix2 e c') idx 1 + (rowScatter N E C wf).window (ix2 e c') 1
      = (c'.val : ℤ) := by
    unfold ScatterDims.start ScatterDims.window
    rw [dif_neg (show ¬ (1 : Fin 2) ∈ (rowScatter N E C wf).scatterDimsToOperandDims from fun h => by simp at h),
      dif_pos (by simp [ScatterDims.sKept, Shape.kept])]
    simp only [zero_add]
    rfl
  have hs : ∀ a, (rowScatter N E C wf).start (ix2 e c') idx a + (rowScatter N E C wf).window (ix2 e c') a
      = ((ix2 r c' a).val : ℤ) := by
    intro a
    match a with
    | ⟨0, _⟩ => exact hs0
    | ⟨1, _⟩ => exact hs1
  unfold ScatterDims.resultIdx?
  rw [dif_pos (fun a => by
    rw [hs a]
    exact ⟨by omega, by have := (ix2 r c' a).isLt; omega⟩)]
  rw [Option.some_inj]
  constructor
  · intro h
    have h0 := congrArg Fin.val (congrFun h 0)
    have h1 := congrArg Fin.val (congrFun h 1)
    simp only [hs] at h0 h1
    exact ⟨Fin.ext h0, Fin.ext h1⟩
  · rintro ⟨rfl, rfl⟩
    refine funext fun a => Fin.ext ?_
    simp only [hs]
    rfl

/-- An accumulating scatter of single entries: each entry gets the sum of what is sent to it. -/
theorem entryScatter_apply (wf) (x : (⟨1, ![N]⟩ : Shape).Idx → EReal) (idx : IVec ⟨2, ![E, 1]⟩ 32)
    (upd : (⟨1, ![E]⟩ : Shape).Idx → EReal) (r : Fin E → Fin N) (i : Fin N)
    (hN : N < 2147483648) (hr : ∀ e, idx (ix2 e 0) = BitVec.ofNat 32 (r e).val) :
    Ideal.hostScatterAdd (entryScatter N E wf) x idx upd (ix1 i)
      = x (ix1 i) + ∑ e, if r e = i then upd (ix1 e) else 0 := by
  unfold Ideal.hostScatterAdd
  rw [Finset.sum_filter, sum_idx1]
  refine congrArg (x (ix1 i) + ·) (Finset.sum_congr rfl fun e _ => ?_)
  exact if_congr (entryScatter_lands wf idx e (r e) i hN (hr e)) rfl rfl

/-- An accumulating scatter of rows: each row gets the sum of the rows sent to it. -/
theorem rowScatter_apply (wf) (x : (⟨2, ![N, C]⟩ : Shape).Idx → EReal) (idx : IVec ⟨2, ![E, 1]⟩ 32)
    (upd : (⟨2, ![E, C]⟩ : Shape).Idx → EReal) (r : Fin E → Fin N) (i : Fin N) (c : Fin C)
    (hN : N < 2147483648) (hr : ∀ e, idx (ix2 e 0) = BitVec.ofNat 32 (r e).val) :
    Ideal.hostScatterAdd (rowScatter N E C wf) x idx upd (ix2 i c)
      = x (ix2 i c) + ∑ e, if r e = i then upd (ix2 e c) else 0 := by
  unfold Ideal.hostScatterAdd
  rw [Finset.sum_filter, sum_idx2]
  refine congrArg (x (ix2 i c) + ·) (Finset.sum_congr rfl fun e _ => ?_)
  rw [Finset.sum_congr rfl fun c' _ => if_congr (rowScatter_lands wf idx e c' (r e) i c hN (hr e)) rfl rfl]
  by_cases h : r e = i
  · rw [if_pos h]
    simp [h]
  · rw [if_neg h]
    simp [h]

end Cert.Gcn

end
-- ==== Proof.RefGraph.lean ====
/-
  What the reference computes first: the similarities of every image, the edge list, and the nodes' weights.
-/
module

public import proofs.«01_k».proof.Proof.Edges
public import proofs.«01_k».proof.Proof.TopK
public import proofs.«01_k».proof.Proof.Indices
public import proofs.«01_k».proof.Proof.Gen.ReferenceIdeal.Run
public import Idealize.ShloMosaic.Lib.Pointwise

@[expose] public section

set_option maxRecDepth 16384

noncomputable section

namespace Cert.ReferenceIdeal.Net

open Idealize.ShloMosaic Cert.Gcn Cert.ReferenceIdeal.Value

variable (V0 : Valuation τ sig (Elt Ideal))

/-- The feature maps by their four coordinates. -/
abbrev maps : Fin 8 → Fin 256 → Fin 32 → Fin 32 → EReal :=
  fun b c h w => (V0 (Proc.devRef .tc main_arg0) : S8x256x32x32.Idx → EReal) (ix4 b c h w)

/-- The similarities of every image. -/
abbrev sims (b : Fin 8) : Fin 1024 → Fin 1024 → EReal := sim (imgs (maps V0) b)

/-! ## The similarities -/

/-- The feature maps as images of pixels. -/
theorem v1_apply (b : Fin 8) (n : Fin 1024) (c : Fin 256) :
    (res_main_v1 V0 : S8x1024x256.Idx → EReal) (ix3 b n c) = imgs (maps V0) b n c := by
  unfold imgs maps
  pointwise [res_main_v1]

/-- The pixels scaled to length one. -/
theorem v6_apply (b : Fin 8) (n : Fin 1024) (c : Fin 256) :
    (res_main_v6 V0 : S8x1024x256.Idx → EReal) (ix3 b n c) = unit (imgs (maps V0) b) n c := by
  pointwise [res_main_v6, v1_apply, unit, len, eps]

/-- Their scalar products. -/
theorem v7_apply (b : Fin 8) (n m : Fin 1024) :
    (res_main_v7 V0 : S8x1024x1024.Idx → EReal) (ix3 b n m) = sims V0 b n m := by
  pointwise [res_main_v7, v6_apply, sim]

/-! ## The edge list -/

/-- The sum of two small words. -/
theorem ofNat_add (a b : Nat) : BitVec.ofNat 32 a + BitVec.ofNat 32 b = BitVec.ofNat 32 (a + b) :=
  (BitVec.ofNat_add a b).symm

/-- The first node of each image. -/
theorem v15_apply (b : Fin 8) (p q : Fin 1) :
    (res_main_v15 V0 : S8x1x1.Idx → BitVec 32) (ix3 b p q) = BitVec.ofNat 32 (b.val * 1024) := by
  pointwise [res_main_v15]
  exact (BitVec.ofNat_mul b.val 1024).symm

/-- The sources of the edges. -/
theorem v28_apply (e : Fin 49152) :
    (res_main_v28 V0 : S49152.Idx → BitVec 32) (ix1 e) = BitVec.ofNat 32 (src e).val := by
  pointwise [res_main_v28, res_main_v23, res_main_v22, res_main_v27, v15_apply]
  unfold src
  by_cases h : e.val < 32768
  · rw [dif_pos (by omega : e.val < 40960), dif_pos h, dif_pos h]
    refine (ofNat_add _ _).trans (congrArg (BitVec.ofNat 32) ?_)
    show e.val / 4 % 1024 + e.val / 4096 * 1024 = e.val / 4
    omega
  · by_cases h' : e.val < 40960
    · rw [dif_pos h', dif_neg h, dif_neg h, dif_pos h']
    · rw [dif_neg h', dif_neg h, dif_neg h']

/-- The indices of the five greatest similarities of a pixel are the first five of its ranking. -/
theorem top_apply (b : Fin 8) (n : Fin 1024) (k : Fin 5) :
    (Host.topK S8x1024x5 2 (FloatOps.cmpfTotal .gt) (res_main_v7 V0) Gen.sliceFits_S8x1024x1024_S8x1024x5).2 (ix3 b n k)
      = BitVec.ofNat 32 (order (sims V0 b n) ⟨k.val, by omega⟩).val := by
  refine (topK_apply (res_main_v7 V0) _ (by omega) b n k).trans ?_
  have h : (fun m => (res_main_v7 V0 : S8x1024x1024.Idx → EReal) (ix3 b n m)) = sims V0 b n :=
    funext fun m => v7_apply V0 b n m
  exact congrArg (fun s => BitVec.ofNat 32 (order s ⟨k.val, by omega⟩).val) h

/-- The ends of the edges. -/
theorem v29_apply (e : Fin 49152) :
    (res_main_v29 V0 : S49152.Idx → BitVec 32) (ix1 e) = BitVec.ofNat 32 (dst (sims V0) e).val := by
  pointwise [res_main_v29, res_main_v24, res_main_v22, res_main_v27, v15_apply, top_apply]
  unfold dst
  by_cases h : e.val < 32768
  · rw [dif_pos (by omega : e.val < 40960), dif_pos h, dif_pos h]
    have hk : (⟨1 + e.val % 4, by omega⟩ : Fin 1024) = ⟨e.val % 4 + 1, by omega⟩ := Fin.ext (Nat.add_comm _ _)
    rw [hk]
    exact (ofNat_add _ _).trans (congrArg (BitVec.ofNat 32) (Nat.add_comm _ _))
  · by_cases h' : e.val < 40960
    · rw [dif_pos h', dif_neg h, dif_neg h, dif_pos h']
    · rw [dif_neg h', dif_neg h, dif_neg h']

/-- An edge list as the gathers and scatters take it: negative words would count from the end. -/
abbrev col (v : S49152.Idx → BitVec 32) : S49152x1.Idx → BitVec 32 :=
  broadcastInDim S49152x1 ![0] Gen.bcast_S49152_S49152x1_0
    (select (cmpi .slt v (broadcastInDim S49152 ![] Gen.bcast_S_S49152 (constantI S_ 32 0#32)))
      (addi v (broadcastInDim S49152 ![] Gen.bcast_S_S49152 (constantI S_ 32 8192#32))) v)

/-- No word of the list is negative, so the list stays as it is. -/
theorem col_apply (v : S49152.Idx → BitVec 32) (r : Fin 49152 → Fin 8192)
    (hv : ∀ e, v (ix1 e) = BitVec.ofNat 32 (r e).val) (e : Fin 49152) (z : Fin 1) :
    col v (ix2 e z) = BitVec.ofNat 32 (r e).val := by
  pointwise [col, hv]
  have h : IntOp.cmpi .slt (BitVec.ofNat 32 (r e).val) 0#32 = 0#1 := by
    show BitVec.ofBool ((BitVec.ofNat 32 (r e).val).slt 0#32) = 0#1
    rw [BitVec.slt_eq_decide, toInt_ofNat (by omega)]
    exact congrArg BitVec.ofBool (decide_eq_false (by show ¬ ((r e).val : ℤ) < 0; omega))
  rw [h]
  rfl

/-! ## The nodes' weights -/

/-- The degrees. -/
theorem v38_apply (b : Fin 8) (m : Fin 1024) :
    (res_main_v38 V0 : S8192.Idx → EReal) (ix1 (node b m)) = deg (graph (sims V0 b)) m := by
  refine (entryScatter_apply Gen.scatter_S8192_S49152x1_S49152_n_0_0_1_wf _ (col (res_main_v29 V0)) _ (dst (sims V0)) (node b m)
    (by omega) (fun e => col_apply _ _ (v29_apply V0) e 0)).trans ?_
  pointwise [Ideal.ofBits_one_f32, Ideal.ofBits_zero_f32]
  exact list_deg (sims V0) b m

/-- The weights: the reciprocal square roots of the degrees. -/
theorem v42_apply (b : Fin 8) (m : Fin 1024) :
    (res_main_v42 V0 : S8192.Idx → EReal) (ix1 (node b m)) = dinv (graph (sims V0 b)) m := by
  pointwise [res_main_v42, v38_apply, Ideal.ofBits_zero_f32]
  exact if_pos (deg_pos (sims V0 b) m)

end Cert.ReferenceIdeal.Net

end
-- ==== Proof.RefValue.lean ====
/-
  What the reference's run leaves in its result array: the two graph convolutions of `Spec.lean` on every image.
-/
module

public import proofs.«01_k».proof.Proof.RefGraph

@[expose] public section

set_option maxRecDepth 16384

noncomputable section

namespace Cert.ReferenceIdeal.Net

open Idealize.ShloMosaic Cert.Gcn Cert.ReferenceIdeal.Value

variable (V0 : Valuation τ sig (Elt Ideal))

/-- The weight of each edge: the product of its ends' weights. -/
def edgeW : FVec Ideal S49152 .f32 :=
  mulf (Host.gather gather_S8192_S49152x1_S49152_n_0_n_n_0_1_1 (res_main_v42 V0) (col (res_main_v28 V0)))
    (Host.gather gather_S8192_S49152x1_S49152_n_0_n_n_0_1_1 (res_main_v42 V0) (col (res_main_v29 V0)))

/-- The nodes' weights by node. -/
def nodeW (i : Fin 8192) : EReal := (res_main_v42 V0 : S8192.Idx → EReal) (ix1 i)

/-- An edge's weight at an index. -/
theorem edgeW_apply (e : Fin 49152) : edgeW V0 (ix1 e) = nodeW V0 (src e) * nodeW V0 (dst (sims V0) e) :=
  congrArg₂ (fun x y : EReal => x * y)
    (entryGather_apply Gen.gather_S8192_S49152x1_S49152_n_0_n_n_0_1_1_wf _ _ e (src e) (by omega)
      (col_apply _ _ (v28_apply V0) e 0))
    (entryGather_apply Gen.gather_S8192_S49152x1_S49152_n_0_n_n_0_1_1_wf _ _ e (dst (sims V0) e) (by omega)
      (col_apply _ _ (v29_apply V0) e 0))

section

variable {C : Nat} (wg) (ws) (hz : S_.BroadcastsInDim ⟨2, ![8192, C]⟩ ![])
  (he : S49152x1.BroadcastsInDim ⟨2, ![49152, C]⟩ ![0, 1])

/-- A graph convolution over the edge list, on transformed features `h`, with a bias for every place. -/
abbrev conv (h : FVec Ideal ⟨2, ![8192, C]⟩ .f32) (bias : FVec Ideal ⟨2, ![8192, C]⟩ .f32) :
    FVec Ideal ⟨2, ![8192, C]⟩ .f32 :=
  maximumf (addf (Host.scatterAdd (rowScatter 8192 49152 C ws)
      (broadcastInDim ⟨2, ![8192, C]⟩ ![] hz (constant S_ .f32 0x00000000#32)) (col (res_main_v29 V0))
      (mulf (broadcastInDim ⟨2, ![49152, C]⟩ ![0, 1] he
          (broadcastInDim S49152x1 ![0] Gen.bcast_S49152_S49152x1_0 (edgeW V0)))
        (Host.gather (rowGather 8192 49152 C wg) h (col (res_main_v28 V0))))) bias)
    (broadcastInDim ⟨2, ![8192, C]⟩ ![] hz (constant S_ .f32 0x00000000#32))

/-- With a bias `β` for every channel it is the layer on every image. -/
theorem conv_apply (h bias : FVec Ideal ⟨2, ![8192, C]⟩ .f32) (β : Fin C → EReal)
    (hb : ∀ i c, bias (ix2 i c) = β c) (b : Fin 8) (m : Fin 1024) (c : Fin C) :
    conv V0 wg ws hz he h bias (ix2 (node b m) c)
      = layer (graph (sims V0 b)) (fun n c => h (ix2 (node b n) c)) β m c := by
  have hs := rowScatter_apply ws (broadcastInDim ⟨2, ![8192, C]⟩ ![] hz (constant (F := Ideal) S_ .f32 0x00000000#32))
    (col (res_main_v29 V0)) (mulf (broadcastInDim ⟨2, ![49152, C]⟩ ![0, 1] he
          (broadcastInDim S49152x1 ![0] Gen.bcast_S49152_S49152x1_0 (edgeW V0)))
        (Host.gather (rowGather 8192 49152 C wg) h (col (res_main_v28 V0)))) (dst (sims V0)) (node b m) c (by omega)
      (fun e => col_apply _ _ (v29_apply V0) e 0)
  have hg : ∀ e, Host.gather (rowGather 8192 49152 C wg) h (col (res_main_v28 V0)) (ix2 e c) = h (ix2 (src e) c) :=
    fun e => rowGather_apply wg h _ e c (src e) (by omega) (col_apply _ _ (v28_apply V0) e 0)
  have hu : ∀ e, (mulf (broadcastInDim ⟨2, ![49152, C]⟩ ![0, 1] he
          (broadcastInDim S49152x1 ![0] Gen.bcast_S49152_S49152x1_0 (edgeW V0)))
        (Host.gather (rowGather 8192 49152 C wg) h (col (res_main_v28 V0)))) (ix2 e c)
      = nodeW V0 (src e) * nodeW V0 (dst (sims V0) e) * h (ix2 (src e) c) := fun e => by
    refine congrArg₂ (fun x y : EReal => x * y) ?_ (hg e)
    pointwise [edgeW_apply]
  have h0 : (broadcastInDim ⟨2, ![8192, C]⟩ ![] hz (constant (F := Ideal) S_ .f32 0x00000000#32)) (ix2 (node b m) c)
      = (0 : EReal) := by
    pointwise [Ideal.ofBits_zero_f32]
  refine (congrArg₂ (fun x y : EReal => max x y) (congrArg₂ (fun x y : EReal => x + y) hs (hb _ c)) h0).trans ?_
  rw [h0, zero_add, Finset.sum_congr rfl fun e _ => if_congr Iff.rfl (hu e) rfl]
  exact list_layer (sims V0) (nodeW V0) (v42_apply V0) (fun i c => h (ix2 i c)) β b m c

end

/-! ## The result -/

/-- The arguments but the feature maps, by their coordinates. -/
abbrev w1 : Fin 256 → Fin 512 → EReal := fun k l => (V0 (Proc.devRef .tc main_arg1) : S256x512.Idx → EReal) (ix2 k l)
/-- The first bias. -/
abbrev b1 : Fin 512 → EReal := fun l => (V0 (Proc.devRef .tc main_arg2) : S512.Idx → EReal) (ix1 l)
/-- The second layer's matrix. -/
abbrev w2 : Fin 512 → Fin 256 → EReal := fun k l => (V0 (Proc.devRef .tc main_arg3) : S512x256.Idx → EReal) (ix2 k l)
/-- The second bias. -/
abbrev b2 : Fin 256 → EReal := fun l => (V0 (Proc.devRef .tc main_arg4) : S256.Idx → EReal) (ix1 l)

/-- The transformed features of the first layer. -/
def feat1 : FVec Ideal S8192x512 .f32 :=
  Host.dotGeneral (φ₁ := .f32) (φ₂ := .f32) dot_S8192x256_S256x512_S8192x512_1_0_0_1_n_n none
    (shapeCast S8192x256 (transpose S8x32x32x256 [0, 2, 3, 1] (V0 (Proc.devRef .tc main_arg0) : S8x256x32x32.Idx → EReal)
      Gen.transposes_S8x256x32x32_S8x32x32x256_0_2_3_1) Gen.shapeCasts_S8x32x32x256_S8192x256)
    (V0 (Proc.devRef .tc main_arg1))

/-- The first bias for every place. -/
def bias1 : FVec Ideal S8192x512 .f32 :=
  broadcastInDim S8192x512 ![0, 1] Gen.bcast_S1x512_S8192x512_0_1 (broadcastInDim S1x512 ![1] Gen.bcast_S512_S1x512_1
    (V0 (Proc.devRef .tc main_arg2) : S512.Idx → EReal))

/-- The second bias for every place. -/
def bias2 : FVec Ideal S8192x256 .f32 :=
  broadcastInDim S8192x256 ![0, 1] Gen.bcast_S1x256_S8192x256_0_1 (broadcastInDim S1x256 ![1] Gen.bcast_S256_S1x256_1
    (V0 (Proc.devRef .tc main_arg4) : S256.Idx → EReal))

/-- The first bias at a place. -/
theorem bias1_apply (i : Fin 8192) (c : Fin 512) : bias1 V0 (ix2 i c) = b1 V0 c := by
  pointwise [bias1]

/-- The second bias at a place. -/
theorem bias2_apply (i : Fin 8192) (c : Fin 256) : bias2 V0 (ix2 i c) = b2 V0 c := by
  pointwise [bias2]

/-- The first layer. -/
def hidden : FVec Ideal S8192x512 .f32 :=
  conv V0 Gen.gather_S8192x512_S49152x1_S49152x512_1_0_n_n_0_1_1512_wf
    Gen.scatter_S8192x512_S49152x1_S49152x512_1_0_0_1_wf Gen.bcast_S_S8192x512 Gen.bcast_S49152x1_S49152x512_0_1
    (feat1 V0) (bias1 V0)

/-- The transformed features of the second layer. -/
def feat2 : FVec Ideal S8192x256 .f32 :=
  Host.dotGeneral (φ₁ := .f32) (φ₂ := .f32) dot_S8192x512_S512x256_S8192x256_1_0_0_1_n_n none (hidden V0) (V0 (Proc.devRef .tc main_arg3))

/-- The reference's last array before the images are put back is the second layer. -/
theorem v134_eq : (res_main_v134 V0 : S8192x256.Idx → EReal)
    = conv V0 Gen.gather_S8192x256_S49152x1_S49152x256_1_0_n_n_0_1_1256_wf
      Gen.scatter_S8192x256_S49152x1_S49152x256_1_0_0_1_wf Gen.bcast_S_S8192x256 Gen.bcast_S49152x1_S49152x256_0_1
      (feat2 V0) (bias2 V0) := rfl

/-- The first layer's transformed features at a pixel. -/
theorem feat1_apply (b : Fin 8) (m : Fin 1024) (c : Fin 512) :
    feat1 V0 (ix2 (node b m) c) = lin (imgs (maps V0) b) (w1 V0) m c := by
  unfold lin imgs node
  pointwise [feat1]
  refine Finset.sum_congr rfl fun k _ => congrArg (· * w1 V0 k c) (congrArg₂ (maps V0 b k) (Fin.ext ?_) (Fin.ext ?_))
  · show (b.val * 1024 + m.val) / 32 % 32 = m.val / 32
    omega
  · show (b.val * 1024 + m.val) % 32 = m.val % 32
    omega

/-- The first layer at a pixel. -/
theorem hidden_apply (b : Fin 8) (m : Fin 1024) (c : Fin 512) :
    hidden V0 (ix2 (node b m) c)
      = layer (graph (sims V0 b)) (lin (imgs (maps V0) b) (w1 V0)) (b1 V0) m c := by
  refine (conv_apply V0 _ _ _ _ (feat1 V0) _ _ (bias1_apply V0) b m c).trans ?_
  simp only [feat1_apply]

/-- The second layer's transformed features at a pixel. -/
theorem feat2_apply (b : Fin 8) (m : Fin 1024) (c : Fin 256) :
    feat2 V0 (ix2 (node b m) c)
      = lin (layer (graph (sims V0 b)) (lin (imgs (maps V0) b) (w1 V0)) (b1 V0)) (w2 V0) m c := by
  pointwise [feat2, hidden_apply]
  rfl

/-- The second layer at a pixel. -/
theorem v134_apply (b : Fin 8) (m : Fin 1024) (c : Fin 256) :
    (res_main_v134 V0 : S8192x256.Idx → EReal) (ix2 (node b m) c)
      = outs (maps V0) (w1 V0) (b1 V0) (w2 V0) (b2 V0) b m c := by
  rw [v134_eq]
  refine (conv_apply V0 _ _ _ _ (feat2 V0) _ _ (bias2_apply V0) b m c).trans ?_
  simp only [feat2_apply]
  rfl

/-- The result: the images put back into channels, rows and columns. -/
theorem v136_apply : (transpose S8x256x32x32 [0, 3, 1, 2] (shapeCast _ (res_main_v134 V0) Gen.shapeCasts_S8192x256_S8x32x32x256)
      Gen.transposes_S8x32x32x256_S8x256x32x32_0_3_1_2 : S8x256x32x32.Idx → EReal)
    = fun j => back (outs (maps V0) (w1 V0) (b1 V0) (w2 V0) (b2 V0)) (j 0) (j 1) (j 2) (j 3) := by
  funext j
  obtain ⟨b, c, y, x, rfl⟩ : ∃ b c y x, j = ix4 b c y x := ⟨j 0, j 1, j 2, j 3, eq_ix4 j⟩
  refine Eq.trans ?_ (v134_apply V0 b ⟨y.val * 32 + x.val, by omega⟩ c)
  pointwise []
  refine congrArg (fun i => (res_main_v134 V0 : S8192x256.Idx → EReal) (ix2 i c)) (Fin.ext ?_)
  show b.val * 1024 + y.val * 32 + x.val = b.val * 1024 + (y.val * 32 + x.val)
  omega

end Cert.ReferenceIdeal.Net

end
-- ==== Proof.SelfFirst.lean ====
/-
  What the precondition says: in every pixel's ranking the pixel itself comes first.
-/
module

public import proofs.«01_k».proof.Proof.Result
public import proofs.«01_k».proof.Proof.TopK
public import proofs.«01_k».proof.Proof.Gen.Pre_self_first
public import Idealize.ShloMosaic.Lib.Pointwise
public import Idealize.ShloMosaic.Lib.IdealHost

@[expose] public section

set_option maxRecDepth 16384

noncomputable section

namespace Cert.Pre_self_first

open Idealize.ShloMosaic Cert.Gcn

variable (x : FVec Ideal S8x256x32x32 .f32)

/-- The feature maps as images of pixels, as an array. -/
def pixels : FVec Ideal S8x1024x256 .f32 :=
  shapeCast S8x1024x256 (transpose S8x32x32x256 [0, 2, 3, 1] x Gen.transposes_S8x256x32x32_S8x32x32x256_0_2_3_1)
    Gen.shapeCasts_S8x32x32x256_S8x1024x256

/-- The lengths of the pixels' feature vectors. -/
def lengths : FVec Ideal S8x1024x1 .f32 :=
  Host.sqrt (broadcastInDim S8x1024x1 ![0, 1] Gen.bcast_S8x1024_S8x1024x1_0_1
    (Host.reduceAdd (mulf (pixels x) (pixels x)) (constant S_ .f32 0x00000000#32) Gen.reducesTo_S8x1024x256_S8x1024_d2
      Gen.h_S_))

/-- The pixels scaled to length one, as an array. -/
def units : FVec Ideal S8x1024x256 .f32 :=
  Host.divf (pixels x) (broadcastInDim S8x1024x256 ![0, 1, 2] Gen.bcast_S8x1024x1_S8x1024x256_0_1_2
    (maximumf (lengths x) (broadcastInDim S8x1024x1 ![] Gen.bcast_S_S8x1024x1 (constant S_ .f32 0x2B8CBCCC#32))))

/-- The similarities, as an array. -/
def scores : FVec Ideal S8x1024x1024 .f32 :=
  Host.dotGeneral (φ₁ := .f32) (φ₂ := .f32) dot_S8x1024x256_S8x1024x256_S8x1024x1024_2_2_1_1_0_0 none (units x) (units x)

/-- The pixels at an index. -/
theorem pixels_apply (b : Fin 8) (n : Fin 1024) (c : Fin 256) :
    pixels x (ix3 b n c) = imgs (fun b c h w => x (ix4 b c h w)) b n c := by
  unfold imgs
  pointwise [pixels]

/-- The scaled pixels at an index. -/
theorem units_apply (b : Fin 8) (n : Fin 1024) (c : Fin 256) :
    units x (ix3 b n c) = unit (imgs (fun b c h w => x (ix4 b c h w)) b) n c := by
  pointwise [units, lengths, pixels_apply, unit, len, eps]

/-- The similarities at an index. -/
theorem scores_apply (b : Fin 8) (n m : Fin 1024) :
    scores x (ix3 b n m) = sim (imgs (fun b c h w => x (ix4 b c h w)) b) n m := by
  pointwise [scores, units_apply, sim]

/-- The indices of the greatest similarities, the first of each pixel. -/
def firsts : IVec S8x1024 32 :=
  shapeCast S8x1024 (extractStridedSlice S8x1024x1 ![0, 0, 0] (Host.topK S8x1024x5 2 (FloatOps.cmpfTotal .gt) (scores x)
    Gen.sliceFits_S8x1024x1024_S8x1024x5).2 Gen.slices_S8x1024x5_S8x1024x1_0_0_0) Gen.shapeCasts_S8x1024x1_S8x1024

/-- The pixels' own numbers. -/
def selves : IVec S8x1024 32 :=
  broadcastInDim S8x1024 ![0, 1] Gen.bcast_S1x1024_S8x1024_0_1 (broadcastInDim S1x1024 ![1] Gen.bcast_S1024_S1x1024_1
    (iotaInDim S1024 32 0))

/-- The precondition compares the two. -/
theorem fn_eq (a1 : FVec Ideal S256x512 .f32) (a2 : FVec Ideal S512 .f32) (a3 : FVec Ideal S512x256 .f32)
    (a4 : FVec Ideal S256 .f32) : fn (F := Ideal) x a1 a2 a3 a4 = cmpi .eq (firsts x) (selves) := rfl

/-- The first of a pixel's ranking, as a word. -/
theorem firsts_apply (b : Fin 8) (n : Fin 1024) :
    firsts x (ix2 b n) = BitVec.ofNat 32 (order (sim (imgs (fun b c h w => x (ix4 b c h w)) b) n) 0).val := by
  have h := topK_apply (scores x) Gen.sliceFits_S8x1024x1024_S8x1024x5 (by omega) b n (0 : Fin 5)
  have hs : (fun m => scores x (ix3 b n m)) = sim (imgs (fun b c h w => x (ix4 b c h w)) b) n :=
    funext fun m => scores_apply x b n m
  rw [hs] at h
  refine Eq.trans ?_ h
  pointwise [firsts]

/-- A pixel's number, as a word. -/
theorem selves_apply (b : Fin 8) (n : Fin 1024) : selves (ix2 b n) = BitVec.ofNat 32 n.val := by
  pointwise [selves]

/-- Under the precondition every pixel is the first of its own ranking. -/
theorem first_of_fn (a1 : FVec Ideal S256x512 .f32) (a2 : FVec Ideal S512 .f32) (a3 : FVec Ideal S512x256 .f32)
    (a4 : FVec Ideal S256 .f32) (h : fn (F := Ideal) x a1 a2 a3 a4 = fun _ => 1#1) (b : Fin 8) (n : Fin 1024) :
    order (sim (imgs (fun b c h w => x (ix4 b c h w)) b) n) 0 = n := by
  have e := congrFun ((fn_eq x a1 a2 a3 a4).symm.trans h) (ix2 b n)
  have e' : BitVec.ofBool (firsts x (ix2 b n) == selves (ix2 b n)) = 1#1 := e
  rw [firsts_apply, selves_apply] at e'
  have e'' : (BitVec.ofNat 32 (order (sim (imgs (fun b c h w => x (ix4 b c h w)) b) n) 0).val == BitVec.ofNat 32 n.val)
      = true := by
    revert e'
    cases (BitVec.ofNat 32 (order (sim (imgs (fun b c h w => x (ix4 b c h w)) b) n) 0).val == BitVec.ofNat 32 n.val)
    · intro h; exact absurd h (by decide)
    · intro _; rfl
  have hv := congrArg BitVec.toNat (beq_iff_eq.mp e'')
  rw [BitVec.toNat_ofNat, BitVec.toNat_ofNat, Nat.mod_eq_of_lt (by omega), Nat.mod_eq_of_lt (by omega)] at hv
  exact Fin.ext hv

end Cert.Pre_self_first

end
-- ==== Proof.lean ====
/-
  The certificate. The kernel is a two-layer graph convolution on every image of a batch: pixels are nodes, each with
  edges to the four pixels most similar to it. The frames are the generated ones. The value claim puts two readings of
  one formula together: the kernel's run leaves `back (outs …)` of its arguments (`KernelValue.lean`, from one image in
  `Image.lean` and `ImageNet.lean` and one block in `Block.lean`), and the reference's run leaves the same
  (`RefValue.lean`, from the similarities, the edge list and the degrees in `RefGraph.lean`). The precondition says that
  each pixel is the first of its own ranking (`SelfFirst.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_self_first
public import proofs.«01_k».proof.Proof.KernelValue
public import proofs.«01_k».proof.Proof.RefValue
public import proofs.«01_k».proof.Proof.SelfFirst
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, read over the machine's floats, runs, keeps its arguments and ends with every counter at zero. -/
theorem frame_kernel : Cert.quiescent_Kernel := fun m ρ _ => Cert.Kernel.Gen.frame m ρ

/-- The same of the kernel read over the extended reals. -/
theorem frame_ideal : Cert.quiescent_KernelIdeal := fun m ρ _ => Cert.KernelIdeal.Gen.frame m ρ

/-- The same again, under the precondition of the value claim (which it doesn't need). -/
theorem frame_ideal_pre : Cert.quiescent_KernelIdeal_pre_self_first := fun m ρ _ => Cert.KernelIdeal.Gen.frame m ρ

/-- The reference runs, keeps its arguments and ends with every counter at zero: it declares no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The same under the precondition of the value claim. -/
theorem frame_reference_pre : Cert.quiescent_ReferenceIdeal_pre_self_first := fun m ρ _ => frame_reference m ρ trivial

/-- The result depends on the five arrays alone. -/
theorem result_congr {x x' : Cert.KernelIdeal.S8x256x32x32.Idx → EReal} {w w' : Cert.KernelIdeal.S256x512.Idx → EReal}
    {a a' : Cert.KernelIdeal.S512.Idx → EReal} {v v' : Cert.KernelIdeal.S512x256.Idx → EReal}
    {d d' : Cert.KernelIdeal.S256.Idx → EReal} (hx : x' = x) (hw : w' = w) (ha : a' = a) (hv : v' = v) (hd : d' = d) :
    (fun j : Cert.KernelIdeal.S8x256x32x32.Idx => Cert.Gcn.back (Cert.Gcn.outs (fun b c h w => x' (ix4 b c h w))
      (fun k l => w' (ix2 k l)) (fun l => a' (ix1 l)) (fun k l => v' (ix2 k l)) fun l => d' (ix1 l)) (j 0) (j 1) (j 2) (j 3))
      = fun j => Cert.Gcn.back (Cert.Gcn.outs (fun b c h w => x (ix4 b c h w))
      (fun k l => w (ix2 k l)) (fun l => a (ix1 l)) (fun k l => v (ix2 k l)) fun l => d (ix1 l)) (j 0) (j 1) (j 2) (j 3) := by
  rw [hx, hw, ha, hv, hd]

/-- Over the extended reals the kernel and the reference return the same array, where every pixel is the first of its
    own ranking: both return the two graph convolutions of every image. -/
theorem value : Cert.algebraic_KernelIdeal_ReferenceIdeal_pre_self_first := by
  intro m g m' g' hpre hargs
  have hfirst : ∀ c, Cert.KernelIdeal.Gen.SelfFirst m c := fun c b n =>
    Cert.Pre_self_first.first_of_fn _ _ _ _ _ (hpre c) b n
  refine ⟨fun c j => Cert.Gcn.back (Cert.KernelIdeal.Gen.outK m c) (j 0) (j 1) (j 2) (j 3),
    Cert.KernelIdeal.Gen.run_value m g hfirst, ?_⟩
  refine (θ_run Cert.ReferenceIdeal.defs _ _).mono (fun r h c => ⟨?_, (h c).2⟩) (Cert.ReferenceIdeal.Value.run m' g')
  refine (h c).1.trans ((Cert.ReferenceIdeal.Net.v136_apply (StableHlo.launchContents m' c)).trans ?_)
  obtain ⟨h0, h1, h2, h3, h4⟩ := hargs c
  exact result_congr h0 h1 h2 h3 h4

/-- The certificate: the stated side conditions of the programs and of the precondition, then the claims in order. -/
theorem claim : Cert.Claim := ⟨Cert.Kernel.Gen.facts, Cert.KernelIdeal.Gen.facts, Cert.ReferenceIdeal.Gen.facts,
  Cert.Pre_self_first.Gen.facts, frame_kernel, frame_ideal, frame_ideal_pre, frame_reference, frame_reference_pre,
  trivial, value⟩

end Cert.Proof

end
